-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2x6x5000 : Shape := ⟨3, ![2, 6, 5000]⟩
abbrev S2x5000 : Shape := ⟨2, ![2, 5000]⟩
abbrev S2x5000x6 : Shape := ⟨3, ![2, 5000, 6]⟩
abbrev S2x5000x1 : Shape := ⟨3, ![2, 5000, 1]⟩
abbrev S_ : Shape := ⟨0, ![]⟩
abbrev S1 : Shape := ⟨1, ![1]⟩
abbrev S1x1x1 : Shape := ⟨3, ![1, 1, 1]⟩
abbrev S2x5120x6 : Shape := ⟨3, ![2, 5120, 6]⟩
abbrev S2x5120 : Shape := ⟨2, ![2, 5120]⟩
abbrev S2x40x128x6 : Shape := ⟨4, ![2, 40, 128, 6]⟩
abbrev S2x40x6x128 : Shape := ⟨4, ![2, 40, 6, 128]⟩
abbrev S2x40x1x128 : Shape := ⟨4, ![2, 40, 1, 128]⟩
abbrev S2x40x8x128 : Shape := ⟨4, ![2, 40, 8, 128]⟩
abbrev S1x1x6x128 : Shape := ⟨4, ![1, 1, 6, 128]⟩
abbrev S6x128 : Shape := ⟨2, ![6, 128]⟩
abbrev S3x128 : Shape := ⟨2, ![3, 128]⟩
abbrev S1x1x3x128 : Shape := ⟨4, ![1, 1, 3, 128]⟩
abbrev S1x128 : Shape := ⟨2, ![1, 128]⟩
abbrev S1x1x1x128 : Shape := ⟨4, ![1, 1, 1, 128]⟩
abbrev S1x1x128x6 : Shape := ⟨4, ![1, 1, 128, 6]⟩
abbrev S128x6 : Shape := ⟨2, ![128, 6]⟩
abbrev S128x1 : Shape := ⟨2, ![128, 1]⟩
abbrev S1x1x8x128 : Shape := ⟨4, ![1, 1, 8, 128]⟩
abbrev S8x128 : Shape := ⟨2, ![8, 128]⟩
abbrev S128x128 : Shape := ⟨2, ![128, 128]⟩
abbrev S1x1x128 : Shape := ⟨3, ![1, 1, 128]⟩
abbrev S128x512 : Shape := ⟨2, ![128, 512]⟩
abbrev S1x512 : Shape := ⟨2, ![1, 512]⟩
abbrev S2x5000x7 : Shape := ⟨3, ![2, 5000, 7]⟩

abbrev nBuf : Space → Nat
  | .hbm => 70
  | .vmem => 7
  | .smem => 0
  | _ => 0

abbrev bufTy : (tb : Table) → Fin (tcTables nBuf tb) → BufTy
  | .hbm, ⟨0, _⟩ => ⟨S2x6x5000, .f32⟩
  | .hbm, ⟨1, _⟩ => ⟨S2x5000, .f32⟩
  | .hbm, ⟨2, _⟩ => ⟨S2x5000, .f32⟩
  | .hbm, ⟨3, _⟩ => ⟨S2x5000, .i32⟩
  | .hbm, ⟨4, _⟩ => ⟨S2x5000, .f32⟩
  | .hbm, ⟨5, _⟩ => ⟨S2x5000, .i32⟩
  | .hbm, ⟨6, _⟩ => ⟨S2x5000x6, .f32⟩
  | .hbm, ⟨7, _⟩ => ⟨S2x5000x1, .i32⟩
  | .hbm, ⟨8, _⟩ => ⟨S_, .i32⟩
  | .hbm, ⟨9, _⟩ => ⟨S2x5000x1, .i32⟩
  | .hbm, ⟨10, _⟩ => ⟨S2x5000x1, .i1⟩
  | .hbm, ⟨11, _⟩ => ⟨S_, .i32⟩
  | .hbm, ⟨12, _⟩ => ⟨S2x5000x1, .i32⟩
  | .hbm, ⟨13, _⟩ => ⟨S2x5000x1, .i32⟩
  | .hbm, ⟨14, _⟩ => ⟨S2x5000x1, .i32⟩
  | .hbm, ⟨15, _⟩ => ⟨S1, .i32⟩
  | .hbm, ⟨16, _⟩ => ⟨S_, .i32⟩
  | .hbm, ⟨17, _⟩ => ⟨S2x5000x1, .i32⟩
  | .hbm, ⟨18, _⟩ => ⟨S2x5000x1, .i1⟩
  | .hbm, ⟨19, _⟩ => ⟨S1x1x1, .i32⟩
  | .hbm, ⟨20, _⟩ => ⟨S2x5000x1, .i32⟩
  | .hbm, ⟨21, _⟩ => ⟨S2x5000x1, .i1⟩
  | .hbm, ⟨22, _⟩ => ⟨S2x5000x1, .i1⟩
  | .hbm, ⟨23, _⟩ => ⟨S_, .i1⟩
  | .hbm, ⟨24, _⟩ => ⟨S2x5000, .i1⟩
  | .hbm, ⟨25, _⟩ => ⟨S2x5000x6, .f32⟩
  | .hbm, ⟨26, _⟩ => ⟨S2x5000x6, .i1⟩
  | .hbm, ⟨27, _⟩ => ⟨S_, .f32⟩
  | .hbm, ⟨28, _⟩ => ⟨S2x5000x6, .f32⟩
  | .hbm, ⟨29, _⟩ => ⟨S2x5000x6, .f32⟩
  | .hbm, ⟨30, _⟩ => ⟨S_, .i32⟩
  | .hbm, ⟨31, _⟩ => ⟨S2x5000, .i32⟩
  | .hbm, ⟨32, _⟩ => ⟨S2x5000, .i1⟩
  | .hbm, ⟨33, _⟩ => ⟨S_, .i32⟩
  | .hbm, ⟨34, _⟩ => ⟨S2x5000, .i32⟩
  | .hbm, ⟨35, _⟩ => ⟨S2x5000, .i32⟩
  | .hbm, ⟨36, _⟩ => ⟨S2x5000, .i32⟩
  | .hbm, ⟨37, _⟩ => ⟨S2x5000x1, .i32⟩
  | .hbm, ⟨38, _⟩ => ⟨S1, .i32⟩
  | .hbm, ⟨39, _⟩ => ⟨S_, .i32⟩
  | .hbm, ⟨40, _⟩ => ⟨S2x5000x1, .i32⟩
  | .hbm, ⟨41, _⟩ => ⟨S2x5000x1, .i1⟩
  | .hbm, ⟨42, _⟩ => ⟨S1x1x1, .i32⟩
  | .hbm, ⟨43, _⟩ => ⟨S2x5000x1, .i32⟩
  | .hbm, ⟨44, _⟩ => ⟨S2x5000x1, .i1⟩
  | .hbm, ⟨45, _⟩ => ⟨S2x5000x1, .i1⟩
  | .hbm, ⟨46, _⟩ => ⟨S_, .i1⟩
  | .hbm, ⟨47, _⟩ => ⟨S2x5000, .i1⟩
  | .hbm, ⟨48, _⟩ => ⟨S2x5000, .f32⟩
  | .hbm, ⟨49, _⟩ => ⟨S_, .f32⟩
  | .hbm, ⟨50, _⟩ => ⟨S2x5000, .f32⟩
  | .hbm, ⟨51, _⟩ => ⟨S2x5000, .f32⟩
  | .hbm, ⟨52, _⟩ => ⟨S_, .i32⟩
  | .hbm, ⟨53, _⟩ => ⟨S_, .f32⟩
  | .hbm, ⟨54, _⟩ => ⟨S2x5120x6, .f32⟩
  | .hbm, ⟨55, _⟩ => ⟨S_, .i32⟩
  | .hbm, ⟨56, _⟩ => ⟨S_, .f32⟩
  | .hbm, ⟨57, _⟩ => ⟨S2x5120, .f32⟩
  | .hbm, ⟨58, _⟩ => ⟨S2x40x128x6, .f32⟩
  | .hbm, ⟨59, _⟩ => ⟨S2x40x6x128, .f32⟩
  | .hbm, ⟨60, _⟩ => ⟨S2x40x1x128, .f32⟩
  | .hbm, ⟨61, _⟩ => ⟨S2x40x1x128, .f32⟩
  | .hbm, ⟨62, _⟩ => ⟨S2x40x6x128, .f32⟩
  | .hbm, ⟨63, _⟩ => ⟨S2x5120, .f32⟩
  | .hbm, ⟨64, _⟩ => ⟨S2x5000, .f32⟩
  | .hbm, ⟨65, _⟩ => ⟨S2x40x128x6, .f32⟩
  | .hbm, ⟨66, _⟩ => ⟨S2x5120x6, .f32⟩
  | .hbm, ⟨67, _⟩ => ⟨S2x5000x6, .f32⟩
  | .hbm, ⟨68, _⟩ => ⟨S2x5000x1, .f32⟩
  | .hbm, ⟨69, _⟩ => ⟨S2x5000x7, .f32⟩
  | .local _ .vmem, ⟨0, _⟩ => ⟨S2x40x6x128, .f32⟩
  | .local _ .vmem, ⟨1, _⟩ => ⟨S2x40x128x6, .f32⟩
  | .local _ .vmem, ⟨2, _⟩ => ⟨S2x40x1x128, .f32⟩
  | .local _ .vmem, ⟨3, _⟩ => ⟨S2x40x1x128, .f32⟩
  | .local _ .vmem, ⟨4, _⟩ => ⟨S2x40x6x128, .f32⟩
  | .local _ .vmem, ⟨5, _⟩ => ⟨S2x40x1x128, .f32⟩
  | .local _ .vmem, ⟨6, _⟩ => ⟨S2x40x8x128, .f32⟩
  | _, _ => ⟨S2x6x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v4 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v5 : Ref sig .tc := ⟨.hbm, 51, rfl⟩
abbrev main_c : Ref sig .tc := ⟨.hbm, 52, rfl⟩
abbrev main_call3_v0 : Ref sig .tc := ⟨.hbm, 53, rfl⟩
abbrev main_v6 : Ref sig .tc := ⟨.hbm, 54, rfl⟩
abbrev main_c_0 : Ref sig .tc := ⟨.hbm, 55, rfl⟩
abbrev main_call4_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11_0 : Ref sig .tc := ⟨.hbm, 61, rfl⟩
abbrev main_v11_1 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c40_i32 : BitVec 32 := 40#32
  let v4 : BitVec 32 := Scalar.addi c0_i32 c40_i32
  let c1_i32 : BitVec 32 := 1#32
  ⟨c0_i32, v4, c1_i32⟩
def k0_off1 (k0_t1 : Fin k0_t1_loop.trips) : Fin 4 → Nat :=
  let c0_28 : Index := 0#32
  let c0_i32 : BitVec 32 := 0#32
  let c1_i32 : BitVec 32 := 1#32
  let arg8 : BitVec 32 := Scf.iv c0_i32 c1_i32 k0_t1
  let v16 : Index := Scalar.indexCast arg8
  let c0_29 : Index := 0#32
  let c0_30 : Index := 0#32
  ![0, v16.toNat, 0, 0]
def k0_off2 (k0_t1 : Fin k0_t1_loop.trips) : Fin 4 → Nat :=
  let c0_32 : Index := 0#32
  let c0_i32 : BitVec 32 := 0#32
  let c1_i32 : BitVec 32 := 1#32
  let arg8 : BitVec 32 := Scf.iv c0_i32 c1_i32 k0_t1
  let v24 : Index := Scalar.indexCast arg8
  let c0_33 : Index := 0#32
  let c0_34 : Index := 0#32
  ![0, v24.toNat, 0, 0]
def k0_off3 (k0_t1 : Fin k0_t1_loop.trips) : Fin 4 → Nat :=
  let c0_36 : Index := 0#32
  let c0_i32 : BitVec 32 := 0#32
  let c1_i32 : BitVec 32 := 1#32
  let arg8 : BitVec 32 := Scf.iv c0_i32 c1_i32 k0_t1
  let v33 : Index := Scalar.indexCast arg8
  let c3 : Index := 3#32
  let c0_37 : Index := 0#32
  ![0, v33.toNat, 3, 0]
def k0_off4 (k0_t1 : Fin k0_t1_loop.trips) : Fin 4 → Nat :=
  let c0_38 : Index := 0#32
  let c0_i32 : BitVec 32 := 0#32
  let c1_i32 : BitVec 32 := 1#32
  let arg8 : BitVec 32 := Scf.iv c0_i32 c1_i32 k0_t1
  let v42 : Index := Scalar.indexCast arg8
  let c6 : Index := 6#32
  let c0_39 : Index := 0#32
  ![0, v42.toNat, 6, 0]
def k0_off5 (k0_t1 : Fin k0_t1_loop.trips) : Fin 4 → Nat :=
  let c1 : Index := 1#32
  let c0_i32 : BitVec 32 := 0#32
  let c1_i32 : BitVec 32 := 1#32
  let arg8 : BitVec 32 := Scf.iv c0_i32 c1_i32 k0_t1
  let v46 : Index := Scalar.indexCast arg8
  let c0_40 : Index := 0#32
  let c0_41 : Index := 0#32
  ![1, v46.toNat, 0, 0]
def k0_off6 (k0_t1 : Fin k0_t1_loop.trips) : Fin 4 → Nat :=
  let c1_43 : Index := 1#32
  let c0_i32 : BitVec 32 := 0#32
  let c1_i32 : BitVec 32 := 1#32
  let arg8 : BitVec 32 := Scf.iv c0_i32 c1_i32 k0_t1
  let v54 : Index := Scalar.indexCast arg8
  let c0_44 : Index := 0#32
  let c0_45 : Index := 0#32
  ![1, v54.toNat, 0, 0]
def k0_off7 (k0_t1 : Fin k0_t1_loop.trips) : Fin 4 → Nat :=
  let c1_47 : Index := 1#32
  let c0_i32 : BitVec 32 := 0#32
  let c1_i32 : BitVec 32 := 1#32
  let arg8 : BitVec 32 := Scf.iv c0_i32 c1_i32 k0_t1
  let v63 : Index := Scalar.indexCast arg8
  let c3_48 : Index := 3#32
  let c0_49 : Index := 0#32
  ![1, v63.toNat, 3, 0]
def k0_off8 (k0_t1 : Fin k0_t1_loop.trips) : Fin 4 → Nat :=
  let c1_50 : Index := 1#32
  let c0_i32 : BitVec 32 := 0#32
  let c1_i32 : BitVec 32 := 1#32
  let arg8 : BitVec 32 := Scf.iv c0_i32 c1_i32 k0_t1
  let v72 : Index := Scalar.indexCast arg8
  let c6_51 : Index := 6#32
  let c0_52 : Index := 0#32
  ![1, v72.toNat, 6, 0]
@[reducible] def k0_t2_loop : Scf.Loop 32 :=
  let c0_i32_4 : BitVec 32 := 0#32
  let c40_i32_5 : BitVec 32 := 40#32
  let v5 : BitVec 32 := Scalar.addi c0_i32_4 c40_i32_5
  let c1_i32_6 : BitVec 32 := 1#32
  ⟨c0_i32_4, v5, c1_i32_6⟩
def k0_off9 (k0_t2 : Fin k0_t2_loop.trips) : Fin 4 → Nat :=
  let c0_28 : Index := 0#32
  let c0_i32_4 : BitVec 32 := 0#32
  let c1_i32_6 : BitVec 32 := 1#32
  let arg8 : BitVec 32 := Scf.iv c0_i32_4 c1_i32_6 k0_t2
  let v16 : Index := Scalar.indexCast arg8
  let c0_29 : Index := 0#32
  let c0_30 : Index := 0#32
  ![0, v16.toNat, 0, 0]
def k0_off10 (k0_t2 : Fin k0_t2_loop.trips) : Fin 4 → Nat :=
  let c1 : Index := 1#32
  let c0_i32_4 : BitVec 32 := 0#32
  let c1_i32_6 : BitVec 32 := 1#32
  let arg8 : BitVec 32 := Scf.iv c0_i32_4 c1_i32_6 k0_t2
  let v45 : Index := Scalar.indexCast arg8
  let c0_37 : Index := 0#32
  let c0_38 : Index := 0#32
  ![1, v45.toNat, 0, 0]
def k0_off11 (k0_t2 : Fin k0_t2_loop.trips) : Fin 4 → Nat :=
  let c0_45 : Index := 0#32
  let c0_i32_4 : BitVec 32 := 0#32
  let c1_i32_6 : BitVec 32 := 1#32
  let arg8 : BitVec 32 := Scf.iv c0_i32_4 c1_i32_6 k0_t2
  let v74 : Index := Scalar.indexCast arg8
  let c0_46 : Index := 0#32
  let c0_47 : Index := 0#32
  ![0, v74.toNat, 0, 0]
def k0_off12 (k0_t2 : Fin k0_t2_loop.trips) : Fin 4 → Nat :=
  let c1_51 : Index := 1#32
  let c0_i32_4 : BitVec 32 := 0#32
  let c1_i32_6 : BitVec 32 := 1#32
  let arg8 : BitVec 32 := Scf.iv c0_i32_4 c1_i32_6 k0_t2
  let v118 : Index := Scalar.indexCast arg8
  let c0_52 : Index := 0#32
  let c0_53 : Index := 0#32
  ![1, v118.toNat, 0, 0]
def k0_off13 (k0_t2 : Fin k0_t2_loop.trips) : Fin 4 → Nat :=
  let c0_63 : Index := 0#32
  let c0_i32_4 : BitVec 32 := 0#32
  let c1_i32_6 : BitVec 32 := 1#32
  let arg8 : BitVec 32 := Scf.iv c0_i32_4 c1_i32_6 k0_t2
  let v177 : Index := Scalar.indexCast arg8
  let c0_64 : Index := 0#32
  let c0_65 : Index := 0#32
  ![0, v177.toNat, 0, 0]
def k0_off14 (k0_t2 : Fin k0_t2_loop.trips) : Fin 4 → Nat :=
  let c1_66 : Index := 1#32
  let c0_i32_4 : BitVec 32 := 0#32
  let c1_i32_6 : BitVec 32 := 1#32
  let arg8 : BitVec 32 := Scf.iv c0_i32_4 c1_i32_6 k0_t2
  let v180 : Index := Scalar.indexCast arg8
  let c0_67 : Index := 0#32
  let c0_68 : Index := 0#32
  ![1, v180.toNat, 0, 0]
@[reducible] def k0_t3_loop (k0_t2 : Fin k0_t2_loop.trips) : Scf.Loop 32 :=
  let c0_i32_84 : BitVec 32 := 0#32
  let c40_i32_76 : BitVec 32 := 40#32
  let c0_i32_4 : BitVec 32 := 0#32
  let c1_i32_6 : BitVec 32 := 1#32
  let arg8 : BitVec 32 := Scf.iv c0_i32_4 c1_i32_6 k0_t2
  let v192 : BitVec 32 := Scalar.subi c40_i32_76 arg8
  let c1_i32_77 : BitVec 32 := 1#32
  let v193 : BitVec 32 := Scalar.subi v192 c1_i32_77
  let c0_i32_78 : BitVec 32 := 0#32
  let v195 : BitVec 1 := Scalar.cmpi .sgt v193 c0_i32_78
  let v196 : BitVec 32 := Scalar.extui v195
  let c0_i32_79 : BitVec 32 := 0#32
  let v197 : BitVec 1 := Scalar.cmpi .slt v193 c0_i32_79
  let v198 : BitVec 32 := Scalar.extui v197
  let v199 : BitVec 32 := Scalar.subi v196 v198
  let c4_i32 : BitVec 32 := 4#32
  let c0_i32_80 : BitVec 32 := 0#32
  let v200 : BitVec 1 := Scalar.cmpi .sgt c4_i32 c0_i32_80
  let v201 : BitVec 32 := Scalar.extui v200
  let c0_i32_81 : BitVec 32 := 0#32
  let v202 : BitVec 1 := Scalar.cmpi .slt c4_i32 c0_i32_81
  let v203 : BitVec 32 := Scalar.extui v202
  let v204 : BitVec 32 := Scalar.subi v201 v203
  let v205 : BitVec 1 := Scalar.cmpi .ne v199 v204
  let v206 : BitVec 32 := Scalar.remsi v193 c4_i32
  let c0_i32_82 : BitVec 32 := 0#32
  let v207 : BitVec 1 := Scalar.cmpi .ne v206 c0_i32_82
  let v208 : BitVec 1 := Scalar.andi v205 v207
  let v194 : BitVec 32 := Scalar.divsi v193 c4_i32
  let c1_i32_83 : BitVec 32 := 1#32
  let v209 : BitVec 32 := Scalar.subi v194 c1_i32_83
  let v210 : BitVec 32 := Scalar.select v208 v209 v194
  let v211 : BitVec 32 := Scalar.subi v210 c0_i32_84
  let c1_i32_85 : BitVec 32 := 1#32
  let v213 : BitVec 32 := Scalar.divsi v211 c1_i32_85
  let v214 : BitVec 32 := Scalar.muli v213 c1_i32_85
  let v215 : BitVec 32 := Scalar.addi c0_i32_84 v214
  let c1_i32_86 : BitVec 32 := 1#32
  ⟨c0_i32_84, v215, c1_i32_86⟩
def k0_off15 (k0_t2 : Fin k0_t2_loop.trips) (k0_t3 : Fin (k0_t3_loop k0_t2).trips) (c0_i32_103 : BitVec 32) : Fin 4 → Nat :=
  let c0_104 : Index := 0#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c1_i32_86 : BitVec 32 := 1#32
  let arg9 : BitVec 32 := Scf.iv c0_i32_84 c1_i32_86 k0_t3
  let v242 : BitVec 32 := Scalar.muli c4_i32_102 arg9
  let v243 : BitVec 32 := Scalar.addi v241 v242
  let v244 : BitVec 32 := Scalar.addi v243 c0_i32_103
  let v245 : Index := Scalar.indexCast v244
  let c0_105 : Index := 0#32
  let c0_106 : Index := 0#32
  ![0, v245.toNat, 0, 0]
def k0_off16 (k0_t2 : Fin k0_t2_loop.trips) (k0_t3 : Fin (k0_t3_loop k0_t2).trips) (c0_i32_141 : BitVec 32) : Fin 4 → Nat :=
  let c1_142 : Index := 1#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c1_i32_86 : BitVec 32 := 1#32
  let arg9 : BitVec 32 := Scf.iv c0_i32_84 c1_i32_86 k0_t3
  let v242 : BitVec 32 := Scalar.muli c4_i32_102 arg9
  let v243 : BitVec 32 := Scalar.addi v241 v242
  let v444 : BitVec 32 := Scalar.addi v243 c0_i32_141
  let v445 : Index := Scalar.indexCast v444
  let c0_143 : Index := 0#32
  let c0_144 : Index := 0#32
  ![1, v445.toNat, 0, 0]
def k0_off17 (k0_t2 : Fin k0_t2_loop.trips) (k0_t3 : Fin (k0_t3_loop k0_t2).trips) (c0_i32_184 : BitVec 32) : Fin 4 → Nat :=
  let c0_185 : Index := 0#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c1_i32_86 : BitVec 32 := 1#32
  let arg9 : BitVec 32 := Scf.iv c0_i32_84 c1_i32_86 k0_t3
  let v242 : BitVec 32 := Scalar.muli c4_i32_102 arg9
  let v243 : BitVec 32 := Scalar.addi v241 v242
  let v651 : BitVec 32 := Scalar.addi v243 c0_i32_184
  let v652 : Index := Scalar.indexCast v651
  let c0_186 : Index := 0#32
  let c0_187 : Index := 0#32
  ![0, v652.toNat, 0, 0]
def k0_off18 (k0_t2 : Fin k0_t2_loop.trips) (k0_t3 : Fin (k0_t3_loop k0_t2).trips) (c0_i32_194 : BitVec 32) : Fin 4 → Nat :=
  let c1_195 : Index := 1#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c1_i32_86 : BitVec 32 := 1#32
  let arg9 : BitVec 32 := Scf.iv c0_i32_84 c1_i32_86 k0_t3
  let v242 : BitVec 32 := Scalar.muli c4_i32_102 arg9
  let v243 : BitVec 32 := Scalar.addi v241 v242
  let v665 : BitVec 32 := Scalar.addi v243 c0_i32_194
  let v666 : Index := Scalar.indexCast v665
  let c0_196 : Index := 0#32
  let c0_197 : Index := 0#32
  ![1, v666.toNat, 0, 0]
@[reducible] def k0_t4_loop (k0_t2 : Fin k0_t2_loop.trips) : Scf.Loop 32 :=
  let c0_i32_84 : BitVec 32 := 0#32
  let c40_i32_76 : BitVec 32 := 40#32
  let c0_i32_4 : BitVec 32 := 0#32
  let c1_i32_6 : BitVec 32 := 1#32
  let arg8 : BitVec 32 := Scf.iv c0_i32_4 c1_i32_6 k0_t2
  let v192 : BitVec 32 := Scalar.subi c40_i32_76 arg8
  let c1_i32_77 : BitVec 32 := 1#32
  let v193 : BitVec 32 := Scalar.subi v192 c1_i32_77
  let c0_i32_78 : BitVec 32 := 0#32
  let v195 : BitVec 1 := Scalar.cmpi .sgt v193 c0_i32_78
  let v196 : BitVec 32 := Scalar.extui v195
  let c0_i32_79 : BitVec 32 := 0#32
  let v197 : BitVec 1 := Scalar.cmpi .slt v193 c0_i32_79
  let v198 : BitVec 32 := Scalar.extui v197
  let v199 : BitVec 32 := Scalar.subi v196 v198
  let c4_i32 : BitVec 32 := 4#32
  let c0_i32_80 : BitVec 32 := 0#32
  let v200 : BitVec 1 := Scalar.cmpi .sgt c4_i32 c0_i32_80
  let v201 : BitVec 32 := Scalar.extui v200
  let c0_i32_81 : BitVec 32 := 0#32
  let v202 : BitVec 1 := Scalar.cmpi .slt c4_i32 c0_i32_81
  let v203 : BitVec 32 := Scalar.extui v202
  let v204 : BitVec 32 := Scalar.subi v201 v203
  let v205 : BitVec 1 := Scalar.cmpi .ne v199 v204
  let v206 : BitVec 32 := Scalar.remsi v193 c4_i32
  let c0_i32_82 : BitVec 32 := 0#32
  let v207 : BitVec 1 := Scalar.cmpi .ne v206 c0_i32_82
  let v208 : BitVec 1 := Scalar.andi v205 v207
  let v194 : BitVec 32 := Scalar.divsi v193 c4_i32
  let c1_i32_83 : BitVec 32 := 1#32
  let v209 : BitVec 32 := Scalar.subi v194 c1_i32_83
  let v210 : BitVec 32 := Scalar.select v208 v209 v194
  let v211 : BitVec 32 := Scalar.subi v210 c0_i32_84
  let c1_i32_85 : BitVec 32 := 1#32
  let v213 : BitVec 32 := Scalar.divsi v211 c1_i32_85
  let v214 : BitVec 32 := Scalar.muli v213 c1_i32_85
  let v215 : BitVec 32 := Scalar.addi c0_i32_84 v214
  let v212 : BitVec 32 := Scalar.addi c0_i32_84 v211
  let c1_i32_87 : BitVec 32 := 1#32
  ⟨v215, v212, c1_i32_87⟩
def k0_off19 (k0_t2 : Fin k0_t2_loop.trips) (k0_t4 : Fin (k0_t4_loop k0_t2).trips) (c0_i32_103 : BitVec 32) : Fin 4 → Nat :=
  let c0_104 : Index := 0#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c40_i32_76 : BitVec 32 := 40#32
  let v192 : BitVec 32 := Scalar.subi c40_i32_76 arg8
  let c1_i32_77 : BitVec 32 := 1#32
  let v193 : BitVec 32 := Scalar.subi v192 c1_i32_77
  let c0_i32_78 : BitVec 32 := 0#32
  let v195 : BitVec 1 := Scalar.cmpi .sgt v193 c0_i32_78
  let v196 : BitVec 32 := Scalar.extui v195
  let c0_i32_79 : BitVec 32 := 0#32
  let v197 : BitVec 1 := Scalar.cmpi .slt v193 c0_i32_79
  let v198 : BitVec 32 := Scalar.extui v197
  let v199 : BitVec 32 := Scalar.subi v196 v198
  let c4_i32 : BitVec 32 := 4#32
  let c0_i32_80 : BitVec 32 := 0#32
  let v200 : BitVec 1 := Scalar.cmpi .sgt c4_i32 c0_i32_80
  let v201 : BitVec 32 := Scalar.extui v200
  let c0_i32_81 : BitVec 32 := 0#32
  let v202 : BitVec 1 := Scalar.cmpi .slt c4_i32 c0_i32_81
  let v203 : BitVec 32 := Scalar.extui v202
  let v204 : BitVec 32 := Scalar.subi v201 v203
  let v205 : BitVec 1 := Scalar.cmpi .ne v199 v204
  let v206 : BitVec 32 := Scalar.remsi v193 c4_i32
  let c0_i32_82 : BitVec 32 := 0#32
  let v207 : BitVec 1 := Scalar.cmpi .ne v206 c0_i32_82
  let v208 : BitVec 1 := Scalar.andi v205 v207
  let v194 : BitVec 32 := Scalar.divsi v193 c4_i32
  let c1_i32_83 : BitVec 32 := 1#32
  let v209 : BitVec 32 := Scalar.subi v194 c1_i32_83
  let v210 : BitVec 32 := Scalar.select v208 v209 v194
  let v211 : BitVec 32 := Scalar.subi v210 c0_i32_84
  let c1_i32_85 : BitVec 32 := 1#32
  let v213 : BitVec 32 := Scalar.divsi v211 c1_i32_85
  let v214 : BitVec 32 := Scalar.muli v213 c1_i32_85
  let v215 : BitVec 32 := Scalar.addi c0_i32_84 v214
  let c1_i32_87 : BitVec 32 := 1#32
  let arg9 : BitVec 32 := Scf.iv v215 c1_i32_87 k0_t4
  let v242 : BitVec 32 := Scalar.muli c4_i32_102 arg9
  let v243 : BitVec 32 := Scalar.addi v241 v242
  let v244 : BitVec 32 := Scalar.addi v243 c0_i32_103
  let v245 : Index := Scalar.indexCast v244
  let c0_105 : Index := 0#32
  let c0_106 : Index := 0#32
  ![0, v245.toNat, 0, 0]
def k0_off20 (k0_t2 : Fin k0_t2_loop.trips) (k0_t4 : Fin (k0_t4_loop k0_t2).trips) (c0_i32_141 : BitVec 32) : Fin 4 → Nat :=
  let c1_142 : Index := 1#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c40_i32_76 : BitVec 32 := 40#32
  let v192 : BitVec 32 := Scalar.subi c40_i32_76 arg8
  let c1_i32_77 : BitVec 32 := 1#32
  let v193 : BitVec 32 := Scalar.subi v192 c1_i32_77
  let c0_i32_78 : BitVec 32 := 0#32
  let v195 : BitVec 1 := Scalar.cmpi .sgt v193 c0_i32_78
  let v196 : BitVec 32 := Scalar.extui v195
  let c0_i32_79 : BitVec 32 := 0#32
  let v197 : BitVec 1 := Scalar.cmpi .slt v193 c0_i32_79
  let v198 : BitVec 32 := Scalar.extui v197
  let v199 : BitVec 32 := Scalar.subi v196 v198
  let c4_i32 : BitVec 32 := 4#32
  let c0_i32_80 : BitVec 32 := 0#32
  let v200 : BitVec 1 := Scalar.cmpi .sgt c4_i32 c0_i32_80
  let v201 : BitVec 32 := Scalar.extui v200
  let c0_i32_81 : BitVec 32 := 0#32
  let v202 : BitVec 1 := Scalar.cmpi .slt c4_i32 c0_i32_81
  let v203 : BitVec 32 := Scalar.extui v202
  let v204 : BitVec 32 := Scalar.subi v201 v203
  let v205 : BitVec 1 := Scalar.cmpi .ne v199 v204
  let v206 : BitVec 32 := Scalar.remsi v193 c4_i32
  let c0_i32_82 : BitVec 32 := 0#32
  let v207 : BitVec 1 := Scalar.cmpi .ne v206 c0_i32_82
  let v208 : BitVec 1 := Scalar.andi v205 v207
  let v194 : BitVec 32 := Scalar.divsi v193 c4_i32
  let c1_i32_83 : BitVec 32 := 1#32
  let v209 : BitVec 32 := Scalar.subi v194 c1_i32_83
  let v210 : BitVec 32 := Scalar.select v208 v209 v194
  let v211 : BitVec 32 := Scalar.subi v210 c0_i32_84
  let c1_i32_85 : BitVec 32 := 1#32
  let v213 : BitVec 32 := Scalar.divsi v211 c1_i32_85
  let v214 : BitVec 32 := Scalar.muli v213 c1_i32_85
  let v215 : BitVec 32 := Scalar.addi c0_i32_84 v214
  let c1_i32_87 : BitVec 32 := 1#32
  let arg9 : BitVec 32 := Scf.iv v215 c1_i32_87 k0_t4
  let v242 : BitVec 32 := Scalar.muli c4_i32_102 arg9
  let v243 : BitVec 32 := Scalar.addi v241 v242
  let v444 : BitVec 32 := Scalar.addi v243 c0_i32_141
  let v445 : Index := Scalar.indexCast v444
  let c0_143 : Index := 0#32
  let c0_144 : Index := 0#32
  ![1, v445.toNat, 0, 0]
def k0_off21 (k0_t2 : Fin k0_t2_loop.trips) (k0_t4 : Fin (k0_t4_loop k0_t2).trips) (c0_i32_184 : BitVec 32) : Fin 4 → Nat :=
  let c0_185 : Index := 0#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c40_i32_76 : BitVec 32 := 40#32
  let v192 : BitVec 32 := Scalar.subi c40_i32_76 arg8
  let c1_i32_77 : BitVec 32 := 1#32
  let v193 : BitVec 32 := Scalar.subi v192 c1_i32_77
  let c0_i32_78 : BitVec 32 := 0#32
  let v195 : BitVec 1 := Scalar.cmpi .sgt v193 c0_i32_78
  let v196 : BitVec 32 := Scalar.extui v195
  let c0_i32_79 : BitVec 32 := 0#32
  let v197 : BitVec 1 := Scalar.cmpi .slt v193 c0_i32_79
  let v198 : BitVec 32 := Scalar.extui v197
  let v199 : BitVec 32 := Scalar.subi v196 v198
  let c4_i32 : BitVec 32 := 4#32
  let c0_i32_80 : BitVec 32 := 0#32
  let v200 : BitVec 1 := Scalar.cmpi .sgt c4_i32 c0_i32_80
  let v201 : BitVec 32 := Scalar.extui v200
  let c0_i32_81 : BitVec 32 := 0#32
  let v202 : BitVec 1 := Scalar.cmpi .slt c4_i32 c0_i32_81
  let v203 : BitVec 32 := Scalar.extui v202
  let v204 : BitVec 32 := Scalar.subi v201 v203
  let v205 : BitVec 1 := Scalar.cmpi .ne v199 v204
  let v206 : BitVec 32 := Scalar.remsi v193 c4_i32
  let c0_i32_82 : BitVec 32 := 0#32
  let v207 : BitVec 1 := Scalar.cmpi .ne v206 c0_i32_82
  let v208 : BitVec 1 := Scalar.andi v205 v207
  let v194 : BitVec 32 := Scalar.divsi v193 c4_i32
  let c1_i32_83 : BitVec 32 := 1#32
  let v209 : BitVec 32 := Scalar.subi v194 c1_i32_83
  let v210 : BitVec 32 := Scalar.select v208 v209 v194
  let v211 : BitVec 32 := Scalar.subi v210 c0_i32_84
  let c1_i32_85 : BitVec 32 := 1#32
  let v213 : BitVec 32 := Scalar.divsi v211 c1_i32_85
  let v214 : BitVec 32 := Scalar.muli v213 c1_i32_85
  let v215 : BitVec 32 := Scalar.addi c0_i32_84 v214
  let c1_i32_87 : BitVec 32 := 1#32
  let arg9 : BitVec 32 := Scf.iv v215 c1_i32_87 k0_t4
  let v242 : BitVec 32 := Scalar.muli c4_i32_102 arg9
  let v243 : BitVec 32 := Scalar.addi v241 v242
  let v651 : BitVec 32 := Scalar.addi v243 c0_i32_184
  let v652 : Index := Scalar.indexCast v651
  let c0_186 : Index := 0#32
  let c0_187 : Index := 0#32
  ![0, v652.toNat, 0, 0]
def k0_off22 (k0_t2 : Fin k0_t2_loop.trips) (k0_t4 : Fin (k0_t4_loop k0_t2).trips) (c0_i32_194 : BitVec 32) : Fin 4 → Nat :=
  let c1_195 : Index := 1#32
  let c0_i32_4 : BitVec 32 := 0#32
  let c1_i32_6 : BitVec 32 := 1#32
  let arg8 : BitVec 32 := Scf.iv c0_i32_4 c1_i32_6 k0_t2
  let c1_i32_101 : BitVec 32 := 1#32
  let v241 : BitVec 32 := Scalar.addi arg8 c1_i32_101
  let c4_i32_102 : BitVec 32 := 4#32
  let c0_i32_84 : BitVec 32 := 0#32
  let c40_i32_76 : BitVec 32 := 40#32
  let v192 : BitVec 32 := Scalar.subi c40_i32_76 arg8
  let c1_i32_77 : BitVec 32 := 1#32
  let v193 : BitVec 32 := Scalar.subi v192 c1_i32_77
  let c0_i32_78 : BitVec 32 := 0#32
  let v195 : BitVec 1 := Scalar.cmpi .sgt v193 c0_i32_78
  let v196 : BitVec 32 := Scalar.extui v195
  let c0_i32_79 : BitVec 32 := 0#32
  let v197 : BitVec 1 := Scalar.cmpi .slt v193 c0_i32_79
  let v198 : BitVec 32 := Scalar.extui v197
  let v199 : BitVec 32 := Scalar.subi v196 v198
  let c4_i32 : BitVec 32 := 4#32
  let c0_i32_80 : BitVec 32 := 0#32
  let v200 : BitVec 1 := Scalar.cmpi .sgt c4_i32 c0_i32_80
  let v201 : BitVec 32 := Scalar.extui v200
  let c0_i32_81 : BitVec 32 := 0#32
  let v202 : BitVec 1 := Scalar.cmpi .slt c4_i32 c0_i32_81
  let v203 : BitVec 32 := Scalar.extui v202
  let v204 : BitVec 32 := Scalar.subi v201 v203
  let v205 : BitVec 1 := Scalar.cmpi .ne v199 v204
  let v206 : BitVec 32 := Scalar.remsi v193 c4_i32
  let c0_i32_82 : BitVec 32 := 0#32
  let v207 : BitVec 1 := Scalar.cmpi .ne v206 c0_i32_82
  let v208 : BitVec 1 := Scalar.andi v205 v207
  let v194 : BitVec 32 := Scalar.divsi v193 c4_i32
  let c1_i32_83 : BitVec 32 := 1#32
  let v209 : BitVec 32 := Scalar.subi v194 c1_i32_83
  let v210 : BitVec 32 := Scalar.select v208 v209 v194
  let v211 : BitVec 32 := Scalar.subi v210 c0_i32_84
  let c1_i32_85 : BitVec 32 := 1#32
  let v213 : BitVec 32 := Scalar.divsi v211 c1_i32_85
  let v214 : BitVec 32 := Scalar.muli v213 c1_i32_85
  let v215 : BitVec 32 := Scalar.addi c0_i32_84 v214
  let c1_i32_87 : BitVec 32 := 1#32
  let arg9 : BitVec 32 := Scf.iv v215 c1_i32_87 k0_t4
  let v242 : BitVec 32 := Scalar.muli c4_i32_102 arg9
  let v243 : BitVec 32 := Scalar.addi v241 v242
  let v665 : BitVec 32 := Scalar.addi v243 c0_i32_194
  let v666 : Index := Scalar.indexCast v665
  let c0_196 : Index := 0#32
  let c0_197 : Index := 0#32
  ![1, v666.toNat, 0, 0]
@[reducible] def k0_t5_loop (k0_t2 : Fin k0_t2_loop.trips) : Scf.Loop 32 :=
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c40_i32_97 : BitVec 32 := 40#32
  let v236 : BitVec 32 := Scalar.subi c40_i32_97 v235
  let c1_i32_98 : BitVec 32 := 1#32
  let v238 : BitVec 32 := Scalar.divsi v236 c1_i32_98
  let v239 : BitVec 32 := Scalar.muli v238 c1_i32_98
  let v240 : BitVec 32 := Scalar.addi v235 v239
  let c1_i32_99 : BitVec 32 := 1#32
  ⟨v235, v240, c1_i32_99⟩
def k0_off23 (k0_t2 : Fin k0_t2_loop.trips) (k0_t5 : Fin (k0_t5_loop k0_t2).trips) : Fin 4 → Nat :=
  let c0_101 : Index := 0#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c1_i32_99 : BitVec 32 := 1#32
  let arg9 : BitVec 32 := Scf.iv v235 c1_i32_99 k0_t5
  let v241 : Index := Scalar.indexCast arg9
  let c0_102 : Index := 0#32
  let c0_103 : Index := 0#32
  ![0, v241.toNat, 0, 0]
def k0_off24 (k0_t2 : Fin k0_t2_loop.trips) (k0_t5 : Fin (k0_t5_loop k0_t2).trips) : Fin 4 → Nat :=
  let c1_110 : Index := 1#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c1_i32_99 : BitVec 32 := 1#32
  let arg9 : BitVec 32 := Scf.iv v235 c1_i32_99 k0_t5
  let v290 : Index := Scalar.indexCast arg9
  let c0_111 : Index := 0#32
  let c0_112 : Index := 0#32
  ![1, v290.toNat, 0, 0]
def k0_off25 (k0_t2 : Fin k0_t2_loop.trips) (k0_t5 : Fin (k0_t5_loop k0_t2).trips) : Fin 4 → Nat :=
  let c0_122 : Index := 0#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c1_i32_99 : BitVec 32 := 1#32
  let arg9 : BitVec 32 := Scf.iv v235 c1_i32_99 k0_t5
  let v343 : Index := Scalar.indexCast arg9
  let c0_123 : Index := 0#32
  let c0_124 : Index := 0#32
  ![0, v343.toNat, 0, 0]
def k0_off26 (k0_t2 : Fin k0_t2_loop.trips) (k0_t5 : Fin (k0_t5_loop k0_t2).trips) : Fin 4 → Nat :=
  let c1_130 : Index := 1#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c1_i32_99 : BitVec 32 := 1#32
  let arg9 : BitVec 32 := Scf.iv v235 c1_i32_99 k0_t5
  let v354 : Index := Scalar.indexCast arg9
  let c0_131 : Index := 0#32
  let c0_132 : Index := 0#32
  ![1, v354.toNat, 0, 0]
@[reducible] def k0_t6_loop (k0_t2 : Fin k0_t2_loop.trips) : Scf.Loop 32 :=
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c40_i32_97 : BitVec 32 := 40#32
  let v236 : BitVec 32 := Scalar.subi c40_i32_97 v235
  let c1_i32_98 : BitVec 32 := 1#32
  let v238 : BitVec 32 := Scalar.divsi v236 c1_i32_98
  let v239 : BitVec 32 := Scalar.muli v238 c1_i32_98
  let v240 : BitVec 32 := Scalar.addi v235 v239
  let v237 : BitVec 32 := Scalar.addi v235 v236
  let c1_i32_100 : BitVec 32 := 1#32
  ⟨v240, v237, c1_i32_100⟩
def k0_off27 (k0_t2 : Fin k0_t2_loop.trips) (k0_t6 : Fin (k0_t6_loop k0_t2).trips) : Fin 4 → Nat :=
  let c0_101 : Index := 0#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c40_i32_97 : BitVec 32 := 40#32
  let v236 : BitVec 32 := Scalar.subi c40_i32_97 v235
  let c1_i32_98 : BitVec 32 := 1#32
  let v238 : BitVec 32 := Scalar.divsi v236 c1_i32_98
  let v239 : BitVec 32 := Scalar.muli v238 c1_i32_98
  let v240 : BitVec 32 := Scalar.addi v235 v239
  let c1_i32_100 : BitVec 32 := 1#32
  let arg9 : BitVec 32 := Scf.iv v240 c1_i32_100 k0_t6
  let v241 : Index := Scalar.indexCast arg9
  let c0_102 : Index := 0#32
  let c0_103 : Index := 0#32
  ![0, v241.toNat, 0, 0]
def k0_off28 (k0_t2 : Fin k0_t2_loop.trips) (k0_t6 : Fin (k0_t6_loop k0_t2).trips) : Fin 4 → Nat :=
  let c1_110 : Index := 1#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c40_i32_97 : BitVec 32 := 40#32
  let v236 : BitVec 32 := Scalar.subi c40_i32_97 v235
  let c1_i32_98 : BitVec 32 := 1#32
  let v238 : BitVec 32 := Scalar.divsi v236 c1_i32_98
  let v239 : BitVec 32 := Scalar.muli v238 c1_i32_98
  let v240 : BitVec 32 := Scalar.addi v235 v239
  let c1_i32_100 : BitVec 32 := 1#32
  let arg9 : BitVec 32 := Scf.iv v240 c1_i32_100 k0_t6
  let v290 : Index := Scalar.indexCast arg9
  let c0_111 : Index := 0#32
  let c0_112 : Index := 0#32
  ![1, v290.toNat, 0, 0]
def k0_off29 (k0_t2 : Fin k0_t2_loop.trips) (k0_t6 : Fin (k0_t6_loop k0_t2).trips) : Fin 4 → Nat :=
  let c0_122 : Index := 0#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c40_i32_97 : BitVec 32 := 40#32
  let v236 : BitVec 32 := Scalar.subi c40_i32_97 v235
  let c1_i32_98 : BitVec 32 := 1#32
  let v238 : BitVec 32 := Scalar.divsi v236 c1_i32_98
  let v239 : BitVec 32 := Scalar.muli v238 c1_i32_98
  let v240 : BitVec 32 := Scalar.addi v235 v239
  let c1_i32_100 : BitVec 32 := 1#32
  let arg9 : BitVec 32 := Scf.iv v240 c1_i32_100 k0_t6
  let v343 : Index := Scalar.indexCast arg9
  let c0_123 : Index := 0#32
  let c0_124 : Index := 0#32
  ![0, v343.toNat, 0, 0]
def k0_off30 (k0_t2 : Fin k0_t2_loop.trips) (k0_t6 : Fin (k0_t6_loop k0_t2).trips) : Fin 4 → Nat :=
  let c1_130 : Index := 1#32
  let c0_i32_4 : BitVec 32 := 0#32
  let c1_i32_6 : BitVec 32 := 1#32
  let arg8 : BitVec 32 := Scf.iv c0_i32_4 c1_i32_6 k0_t2
  let c1_i32_88 : BitVec 32 := 1#32
  let v216 : BitVec 32 := Scalar.addi arg8 c1_i32_88
  let c40_i32_76 : BitVec 32 := 40#32
  let v192 : BitVec 32 := Scalar.subi c40_i32_76 arg8
  let c1_i32_77 : BitVec 32 := 1#32
  let v193 : BitVec 32 := Scalar.subi v192 c1_i32_77
  let c0_i32_90 : BitVec 32 := 0#32
  let v218 : BitVec 1 := Scalar.cmpi .sgt v193 c0_i32_90
  let v219 : BitVec 32 := Scalar.extui v218
  let c0_i32_91 : BitVec 32 := 0#32
  let v220 : BitVec 1 := Scalar.cmpi .slt v193 c0_i32_91
  let v221 : BitVec 32 := Scalar.extui v220
  let v222 : BitVec 32 := Scalar.subi v219 v221
  let c4_i32_89 : BitVec 32 := 4#32
  let c0_i32_92 : BitVec 32 := 0#32
  let v223 : BitVec 1 := Scalar.cmpi .sgt c4_i32_89 c0_i32_92
  let v224 : BitVec 32 := Scalar.extui v223
  let c0_i32_93 : BitVec 32 := 0#32
  let v225 : BitVec 1 := Scalar.cmpi .slt c4_i32_89 c0_i32_93
  let v226 : BitVec 32 := Scalar.extui v225
  let v227 : BitVec 32 := Scalar.subi v224 v226
  let v228 : BitVec 1 := Scalar.cmpi .ne v222 v227
  let v229 : BitVec 32 := Scalar.remsi v193 c4_i32_89
  let c0_i32_94 : BitVec 32 := 0#32
  let v230 : BitVec 1 := Scalar.cmpi .ne v229 c0_i32_94
  let v231 : BitVec 1 := Scalar.andi v228 v230
  let v217 : BitVec 32 := Scalar.divsi v193 c4_i32_89
  let c1_i32_95 : BitVec 32 := 1#32
  let v232 : BitVec 32 := Scalar.subi v217 c1_i32_95
  let v233 : BitVec 32 := Scalar.select v231 v232 v217
  let c4_i32_96 : BitVec 32 := 4#32
  let v234 : BitVec 32 := Scalar.muli v233 c4_i32_96
  let v235 : BitVec 32 := Scalar.addi v216 v234
  let c40_i32_97 : BitVec 32 := 40#32
  let v236 : BitVec 32 := Scalar.subi c40_i32_97 v235
  let c1_i32_98 : BitVec 32 := 1#32
  let v238 : BitVec 32 := Scalar.divsi v236 c1_i32_98
  let v239 : BitVec 32 := Scalar.muli v238 c1_i32_98
  let v240 : BitVec 32 := Scalar.addi v235 v239
  let c1_i32_100 : BitVec 32 := 1#32
  let arg9 : BitVec 32 := Scf.iv v240 c1_i32_100 k0_t6
  let v354 : Index := Scalar.indexCast arg9
  let c0_131 : Index := 0#32
  let c0_132 : Index := 0#32
  ![1, v354.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x40x6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x40x128x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x40x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x40x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x40x6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x6x5000 : Shape := ⟨3, ![2, 6, 5000]⟩
abbrev S2x5000 : Shape := ⟨2, ![2, 5000]⟩
abbrev S2x5000x6 : Shape := ⟨3, ![2, 5000, 6]⟩
abbrev S2x5000x1 : Shape := ⟨3, ![2, 5000, 1]⟩
abbrev S_ : Shape := ⟨0, ![]⟩
abbrev S1 : Shape := ⟨1, ![1]⟩
abbrev S1x1x1 : Shape := ⟨3, ![1, 1, 1]⟩
abbrev S2x5000x3 : Shape := ⟨3, ![2, 5000, 3]⟩
abbrev S2x5000x1x3 : Shape := ⟨4, ![2, 5000, 1, 3]⟩
abbrev S2x1x5000x3 : Shape := ⟨4, ![2, 1, 5000, 3]⟩
abbrev S2x5000x5000x3 : Shape := ⟨4, ![2, 5000, 5000, 3]⟩
abbrev S2x5000x5000x1 : Shape := ⟨4, ![2, 5000, 5000, 1]⟩
abbrev S2x5000x5000 : Shape := ⟨3, ![2, 5000, 5000]⟩
abbrev S2x1x5000 : Shape := ⟨3, ![2, 1, 5000]⟩
abbrev S5000 : Shape := ⟨1, ![5000]⟩
abbrev S2x1 : Shape := ⟨2, ![2, 1]⟩
abbrev S2 : Shape := ⟨1, ![2]⟩
abbrev S1x5000 : Shape := ⟨2, ![1, 5000]⟩
abbrev S2x5000x7 : Shape := ⟨3, ![2, 5000, 7]⟩

abbrev nBuf : Space → Nat
  | .hbm => 176
  | .vmem => 0
  | .smem => 0
  | _ => 0

abbrev hbmTy0_0 (i : Nat) : BufTy := match i % 128 with
  | 0 => ⟨S2x6x5000, .f32⟩
  | 1 => ⟨S2x5000, .f32⟩
  | 2 => ⟨S2x5000, .f32⟩
  | 3 => ⟨S2x5000, .i32⟩
  | 4 => ⟨S2x5000, .f32⟩
  | 5 => ⟨S2x5000, .i32⟩
  | 6 => ⟨S2x5000x6, .f32⟩
  | 7 => ⟨S2x5000x1, .i32⟩
  | 8 => ⟨S_, .i32⟩
  | 9 => ⟨S2x5000x1, .i32⟩
  | 10 => ⟨S2x5000x1, .i1⟩
  | 11 => ⟨S_, .i32⟩
  | 12 => ⟨S2x5000x1, .i32⟩
  | 13 => ⟨S2x5000x1, .i32⟩
  | 14 => ⟨S2x5000x1, .i32⟩
  | 15 => ⟨S1, .i32⟩
  | 16 => ⟨S_, .i32⟩
  | 17 => ⟨S2x5000x1, .i32⟩
  | 18 => ⟨S2x5000x1, .i1⟩
  | 19 => ⟨S1x1x1, .i32⟩
  | 20 => ⟨S2x5000x1, .i32⟩
  | 21 => ⟨S2x5000x1, .i1⟩
  | 22 => ⟨S2x5000x1, .i1⟩
  | 23 => ⟨S_, .i1⟩
  | 24 => ⟨S2x5000, .i1⟩
  | 25 => ⟨S2x5000x6, .f32⟩
  | 26 => ⟨S2x5000x6, .i1⟩
  | 27 => ⟨S_, .f32⟩
  | 28 => ⟨S2x5000x6, .f32⟩
  | 29 => ⟨S2x5000x6, .f32⟩
  | 30 => ⟨S_, .i32⟩
  | 31 => ⟨S2x5000, .i32⟩
  | 32 => ⟨S2x5000, .i1⟩
  | 33 => ⟨S_, .i32⟩
  | 34 => ⟨S2x5000, .i32⟩
  | 35 => ⟨S2x5000, .i32⟩
  | 36 => ⟨S2x5000, .i32⟩
  | 37 => ⟨S2x5000x1, .i32⟩
  | 38 => ⟨S1, .i32⟩
  | 39 => ⟨S_, .i32⟩
  | 40 => ⟨S2x5000x1, .i32⟩
  | 41 => ⟨S2x5000x1, .i1⟩
  | 42 => ⟨S1x1x1, .i32⟩
  | 43 => ⟨S2x5000x1, .i32⟩
  | 44 => ⟨S2x5000x1, .i1⟩
  | 45 => ⟨S2x5000x1, .i1⟩
  | 46 => ⟨S_, .i1⟩
  | 47 => ⟨S2x5000, .i1⟩
  | 48 => ⟨S2x5000, .f32⟩
  | 49 => ⟨S_, .f32⟩
  | 50 => ⟨S2x5000, .f32⟩
  | 51 => ⟨S2x5000, .f32⟩
  | 52 => ⟨S2x5000x3, .f32⟩
  | 53 => ⟨S2x5000x3, .f32⟩
  | 54 => ⟨S_, .f32⟩
  | 55 => ⟨S2x5000x3, .f32⟩
  | 56 => ⟨S2x5000x3, .f32⟩
  | 57 => ⟨S2x5000x3, .f32⟩
  | 58 => ⟨S_, .f32⟩
  | 59 => ⟨S2x5000x3, .f32⟩
  | 60 => ⟨S2x5000x3, .f32⟩
  | 61 => ⟨S2x5000x3, .f32⟩
  | 62 => ⟨S2x5000x1x3, .f32⟩
  | 63 => ⟨S2x1x5000x3, .f32⟩
  | 64 => ⟨S2x5000x5000x3, .f32⟩
  | 65 => ⟨S2x5000x5000x3, .f32⟩
  | 66 => ⟨S2x5000x5000x3, .f32⟩
  | 67 => ⟨S2x5000x1x3, .f32⟩
  | 68 => ⟨S2x1x5000x3, .f32⟩
  | 69 => ⟨S2x5000x5000x3, .f32⟩
  | 70 => ⟨S2x5000x5000x3, .f32⟩
  | 71 => ⟨S2x5000x5000x3, .f32⟩
  | 72 => ⟨S2x5000x5000x3, .f32⟩
  | 73 => ⟨S_, .f32⟩
  | 74 => ⟨S2x5000x5000x3, .f32⟩
  | 75 => ⟨S2x5000x5000x3, .f32⟩
  | 76 => ⟨S2x5000x5000x1, .f32⟩
  | 77 => ⟨S2x5000x5000, .f32⟩
  | 78 => ⟨S2x5000x5000x1, .f32⟩
  | 79 => ⟨S2x5000x5000, .f32⟩
  | 80 => ⟨S2x5000x5000, .f32⟩
  | 81 => ⟨S2x5000x5000x1, .f32⟩
  | 82 => ⟨S2x5000x5000, .f32⟩
  | 83 => ⟨S2x5000x5000, .f32⟩
  | 84 => ⟨S2x5000x1, .f32⟩
  | 85 => ⟨S2x5000, .f32⟩
  | 86 => ⟨S2x5000x1, .f32⟩
  | 87 => ⟨S2x5000, .f32⟩
  | 88 => ⟨S2x5000, .f32⟩
  | 89 => ⟨S2x5000x1, .f32⟩
  | 90 => ⟨S2x5000, .f32⟩
  | 91 => ⟨S2x5000, .f32⟩
  | 92 => ⟨S2x5000x1, .f32⟩
  | 93 => ⟨S2x1x5000, .f32⟩
  | 94 => ⟨S2x5000x5000, .f32⟩
  | 95 => ⟨S2x5000x5000, .f32⟩
  | 96 => ⟨S2x5000x5000, .f32⟩
  | 97 => ⟨S2x5000x5000, .f32⟩
  | 98 => ⟨S2x5000x5000, .f32⟩
  | 99 => ⟨S5000, .i32⟩
  | 100 => ⟨S_, .i1⟩
  | 101 => ⟨S2x5000, .i1⟩
  | 102 => ⟨S_, .i32⟩
  | 103 => ⟨S_, .i32⟩
  | 104 => ⟨S2x5000x5000, .f32⟩
  | 105 => ⟨S5000, .i32⟩
  | 106 => ⟨S_, .i32⟩
  | 107 => ⟨S_, .i32⟩
  | 108 => ⟨S2x5000, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S2x1, .i1⟩
  | _ => ⟨S2x6x5000, .f32⟩

abbrev hbmTy0_1 (i : Nat) : BufTy := match i % 128 with
  | 0 => ⟨S2, .i1⟩
  | 1 => ⟨S2x1, .i1⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S2x1x5000, .f32⟩
  | 25 => ⟨S2x5000, .f32⟩
  | 26 => ⟨S_, .f32⟩
  | 27 => ⟨S2x5000, .f32⟩
  | 28 => ⟨S2x5000, .i1⟩
  | 29 => ⟨S2x5000, .i1⟩
  | 30 => ⟨S2x5000, .i1⟩
  | 31 => ⟨S_, .i32⟩
  | 32 => ⟨S5000, .i32⟩
  | 33 => ⟨S5000, .i1⟩
  | 34 => ⟨S1x5000, .i1⟩
  | 35 => ⟨S2x5000, .i1⟩
  | 36 => ⟨S2x5000, .i1⟩
  | 37 => ⟨S2x5000, .i1⟩
  | 38 => ⟨S2x5000, .i1⟩
  | 39 => ⟨S_, .i32⟩
  | 40 => ⟨S_, .i32⟩
  | 41 => ⟨S2x5000, .f32⟩
  | 42 => ⟨S2x5000, .f32⟩
  | 43 => ⟨S2x5000x1, .f32⟩
  | 44 => ⟨S2x5000x1, .f32⟩
  | 45 => ⟨S2x5000x6, .f32⟩
  | 46 => ⟨S2x5000x6, .f32⟩
  | 47 => ⟨S2x5000x7, .f32⟩
  | _ => ⟨S2x6x5000, .f32⟩

abbrev hbmTy (i : Nat) : BufTy := match i / 128 with
  | 0 => hbmTy0_0 i
  | 1 => hbmTy0_1 i
  | _ => ⟨S2x6x5000, .f32⟩

abbrev bufTy : (tb : Table) → Fin (tcTables nBuf tb) → BufTy
  | .hbm, ⟨i, _⟩ => hbmTy i
  | _, _ => ⟨S2x6x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v4 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_0 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_1 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c : Ref sig .tc := ⟨.hbm, 100, rfl⟩
abbrev main_v51 : Ref sig .tc := ⟨.hbm, 101, rfl⟩
abbrev main_c_2 : Ref sig .tc := ⟨.hbm, 102, rfl⟩
abbrev main_c_3 : Ref sig .tc := ⟨.hbm, 103, rfl⟩
abbrev main_v52_0 : Ref sig .tc := ⟨.hbm, 104, rfl⟩
abbrev main_v52_1 : Ref sig .tc := ⟨.hbm, 105, rfl⟩
abbrev main_v52_2 : Ref sig .tc := ⟨.hbm, 106, rfl⟩
abbrev main_v52_3 : Ref sig .tc := ⟨.hbm, 107, rfl⟩
abbrev main_v52_4 : Ref sig .tc := ⟨.hbm, 108, rfl⟩
abbrev main_while0c_c_8 : Ref sig .tc := ⟨.hbm, 109, rfl⟩
abbrev main_while0c_v60 : Ref sig .tc := ⟨.hbm, 110, rfl⟩
abbrev main_while0b_c_8 : Ref sig .tc := ⟨.hbm, 111, rfl⟩
abbrev main_while0b_v60 : Ref sig .tc := ⟨.hbm, 112, rfl⟩
abbrev main_while0b_v61 : Ref sig .tc := ⟨.hbm, 113, rfl⟩
abbrev main_while0b_c_9 : Ref sig .tc := ⟨.hbm, 114, rfl⟩
abbrev main_while0b_c_10 : Ref sig .tc := ⟨.hbm, 115, rfl⟩
abbrev main_while0b_v62 : Ref sig .tc := ⟨.hbm, 116, rfl⟩
abbrev main_while0b_c_11 : Ref sig .tc := ⟨.hbm, 117, rfl⟩
abbrev main_while0b_c_12 : Ref sig .tc := ⟨.hbm, 118, rfl⟩
abbrev main_while0b_v63 : Ref sig .tc := ⟨.hbm, 119, rfl⟩
abbrev main_while0b_c_13 : Ref sig .tc := ⟨.hbm, 120, rfl⟩
abbrev main_while0b_v64 : Ref sig .tc := ⟨.hbm, 121, rfl⟩
abbrev main_while0b_c_14 : Ref sig .tc := ⟨.hbm, 122, rfl⟩
abbrev main_while0b_v65 : Ref sig .tc := ⟨.hbm, 123, rfl⟩
abbrev main_while0b_c_15 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_v69 : Ref sig .tc := ⟨.hbm, 128, rfl⟩
abbrev main_while0b_v70 : Ref sig .tc := ⟨.hbm, 129, rfl⟩
abbrev main_while0b_v71 : Ref sig .tc := ⟨.hbm, 130, rfl⟩
abbrev main_while0b_c_16 : Ref sig .tc := ⟨.hbm, 131, rfl⟩
abbrev main_while0b_c_17 : Ref sig .tc := ⟨.hbm, 132, rfl⟩
abbrev main_while0b_v72 : Ref sig .tc := ⟨.hbm, 133, rfl⟩
abbrev main_while0b_c_18 : Ref sig .tc := ⟨.hbm, 134, rfl⟩
abbrev main_while0b_c_19 : Ref sig .tc := ⟨.hbm, 135, rfl⟩
abbrev main_while0b_v73 : Ref sig .tc := ⟨.hbm, 136, rfl⟩
abbrev main_while0b_c_20 : Ref sig .tc := ⟨.hbm, 137, rfl⟩
abbrev main_while0b_v74 : Ref sig .tc := ⟨.hbm, 138, rfl⟩
abbrev main_while0b_c_21 : Ref sig .tc := ⟨.hbm, 139, rfl⟩
abbrev main_while0b_v75 : Ref sig .tc := ⟨.hbm, 140, rfl⟩
abbrev main_while0b_c_22 : Ref sig .tc := ⟨.hbm, 141, rfl⟩
abbrev main_while0b_v76 : Ref sig .tc := ⟨.hbm, 142, rfl⟩
abbrev main_while0b_v77 : Ref sig .tc := ⟨.hbm, 143, rfl⟩
abbrev main_while0b_c_23 : Ref sig .tc := ⟨.hbm, 144, rfl⟩
abbrev main_while0b_c_24 : Ref sig .tc := ⟨.hbm, 145, rfl⟩
abbrev main_while0b_v78 : Ref sig .tc := ⟨.hbm, 146, rfl⟩
abbrev main_while0b_c_25 : Ref sig .tc := ⟨.hbm, 147, rfl⟩
abbrev main_while0b_c_26 : Ref sig .tc := ⟨.hbm, 148, rfl⟩
abbrev main_while0b_v79 : Ref sig .tc := ⟨.hbm, 149, rfl⟩
abbrev main_while0b_c_27 : Ref sig .tc := ⟨.hbm, 150, rfl⟩
abbrev main_while0b_v80 : Ref sig .tc := ⟨.hbm, 151, rfl⟩
abbrev main_while0b_v81 : Ref sig .tc := ⟨.hbm, 152, rfl⟩
abbrev main_while0b_v82 : Ref sig .tc := ⟨.hbm, 153, rfl⟩
abbrev main_while0b_cst_28 : Ref sig .tc := ⟨.hbm, 154, rfl⟩
abbrev main_while0b_v83 : Ref sig .tc := ⟨.hbm, 155, rfl⟩
abbrev main_while0b_v84 : Ref sig .tc := ⟨.hbm, 156, rfl⟩
abbrev main_while0b_v85 : Ref sig .tc := ⟨.hbm, 157, rfl⟩
abbrev main_while0b_v86 : Ref sig .tc := ⟨.hbm, 158, rfl⟩
abbrev main_while0b_v87 : Ref sig .tc := ⟨.hbm, 159, rfl⟩
abbrev main_while0b_v88 : Ref sig .tc := ⟨.hbm, 160, rfl⟩
abbrev main_while0b_v89 : Ref sig .tc := ⟨.hbm, 161, rfl⟩
abbrev main_while0b_v90 : Ref sig .tc := ⟨.hbm, 162, rfl⟩
abbrev main_while0b_v91 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_c_29 : Ref sig .tc := ⟨.hbm, 167, rfl⟩
abbrev main_while0b_v95 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩

abbrev nD : Nat := 1
abbrev τ : Topo := Topo.v7x

variable {F : FTy → Type} [FloatOps F]

abbrev main_while0_count : Scf.Loop 32 := ⟨0#32, 5000#32, 1#32⟩
-- ==== Proof.Nms.Around.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.PureOps.Ideal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable (m : (ℓ : Loc nD τ sig) → Buf (Elt Ideal) ℓ)

/-- The host operations before the kernel, as printed. -/
abbrev before : List (List (HloOp τ sig (Elt Ideal))) :=
  [hostOps0, hostOps0_1, hostOps0_2, hostOps0_3, hostOps0_4, hostOps0_5, hostOps0_6, hostOps0_7, hostOps0_8, hostOps0_9]

/-- The contents of every buffer of a core when the kernel starts: the host operations before it, run on the launch
    contents. -/
abbrev V0 (c : Dev nD) : Valuation τ sig (Elt Ideal) := StableHlo.after before.flatten fun b => m (c, b)

/-- The same at a buffer of the core. -/
abbrev V (c : Dev nD) (b : Ref sig .tc) : Buf (Elt Ideal) ((c : Thread nD τ).loc b) := V0 m c (Proc.devRef .tc b)

/-- The host operations before the kernel allocate nothing. -/
theorem before_fresh : (before).Forall fun ops => ops.Forall fun op => op.fresh = ∅ := by
  simp only [List.Forall]; repeat' constructor

/-- Nor do those after it. -/
theorem after_fresh : (hostOps1 : List (HloOp τ sig (Elt Ideal))).Forall fun op => op.fresh = ∅ := by
  simp only [List.Forall]; repeat' constructor

set_option maxHeartbeats 1000000 in
/-- The program is the host operations before the kernel, the kernel, the host operations after it. -/
theorem main_around (𝒱 : Variants) : Pipeline.HMainK (Ix := Unit) (Name := ℕ) (U := UR sig nD τ) (Lvl := ℕ) (cfgs (F := Ideal)) 0 defs₀ 𝒱 m (main (F := Ideal)) (V m)
      (fun _ => Pipeline.chain ([hostOps1].map StableHlo.seq)) :=
  Pipeline.hmain_around (cfgs (F := Ideal)) 0 defs₀ 𝒱 m main before [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    before_fresh main_chain

/-- The operations after the kernel touch arrays of the kernel and buffers beside it only. -/
theorem tail_sub : ∀ ops ∈ ([hostOps1] : List (List (HloOp τ sig (Elt Ideal)))), ∀ op ∈ ops,
    op.bufs ⊆ Pipeline.tailRefs sig Pipeline.Prefetch.none spec0 := by
  rw [Pipeline.tailRefs_none spec0 (launch0 (F := Ideal)).win.arr_unscoped]
  intro ops hops op hop
  obtain rfl := List.mem_singleton.mp hops
  exact Pipeline.sub_ucRefs op ((List.forall_iff_forall_mem.mp hostOps1_sub) op hop)

/-- They allocate nothing. -/
theorem tail_fresh : ∀ ops ∈ ([hostOps1] : List (List (HloOp τ sig (Elt Ideal)))), ∀ op ∈ ops, op.fresh = ∅ := by
  intro ops hops op hop
  obtain rfl := List.mem_singleton.mp hops
  exact (List.forall_iff_forall_mem.mp after_fresh) op hop

/-- They write no array of the kernel. -/
theorem tail_keeps : ∀ ops ∈ ([hostOps1] : List (List (HloOp τ sig (Elt Ideal)))), ∀ op ∈ ops,
    ∀ w, Proc.devRef .tc (Pipeline.arrRef spec0 w) ∉ op.writes := by
  intro ops hops op hop
  obtain rfl := List.mem_singleton.mp hops
  simp only [hostOps1, List.mem_cons, List.mem_nil_iff, _root_.or_false] at hop
  rcases hop with rfl | rfl | rfl | rfl | rfl | rfl | rfl
  all_goals intro w; fin_cases w <;> simp only [StableHlo.unary_writes, StableHlo.binary_writes, StableHlo.reshape_writes, Finset.mem_singleton] <;> exact StableHlo.devRef_ne_of_ne (by decide)

/-- The operations before the kernel leave the given boxes alone. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- So does the whole program. -/
theorem end_arg0 (dats : (p : Fin 1) → (c : Dev nD) → Dat τ (Elt Ideal) Unit ℕ (UR sig nD τ) ℕ (cfgs (F := Ideal) p) c) (c : Dev nD) :
    Pipeline.afterTail₀ (cfgs (F := Ideal)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- The operations before the kernel leave the given scores alone. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- So does the whole program. -/
theorem end_arg1 (dats : (p : Fin 1) → (c : Dev nD) → Dat τ (Elt Ideal) Unit ℕ (UR sig nD τ) ℕ (cfgs (F := Ideal) p) c) (c : Dev nD) :
    Pipeline.afterTail₀ (cfgs (F := Ideal)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

end Cert.KernelIdeal.Gen

end
-- ==== Proof.Nms.Greedy.lean ====
module

public import Idealize.ShloMosaic.PureOps.Ideal

@[expose] public section

/-! Greedy suppression as plain mathematics. `S i j` says that box `i` overlaps box `j` too much, in the order of the
    scores. Nothing here mentions a program. -/

namespace Cert.Nms

/-- Box `j` survives when no surviving earlier box overlaps it. -/
def G (S : Nat → Nat → Prop) (j : Nat) : Prop := ∀ i, (h : i < j) → G S i → ¬ S i j
termination_by j
decreasing_by exact h

/-- Box `j` survives the surviving boxes before `n`. -/
def K (S : Nat → Nat → Prop) (n j : Nat) : Prop := ∀ i, i < j → i < n → G S i → ¬ S i j

variable {S : Nat → Nat → Prop}

/-- The recursion of `G`, as an equivalence. -/
theorem G_iff (j : Nat) : G S j ↔ ∀ i, i < j → G S i → ¬ S i j := by
  rw [G]

/-- Once every earlier box has been looked at, surviving so far is surviving. -/
theorem K_of_le {n j : Nat} (h : j ≤ n) : K S n j ↔ G S j := by
  rw [G_iff]
  exact ⟨fun H i hi => H i hi (by omega), fun H i hi _ => H i hi⟩

/-- Before any box has been looked at every box survives. -/
theorem K_zero (j : Nat) : K S 0 j := fun _ _ h => absurd h (Nat.not_lt_zero _)

/-- One more box looked at. -/
theorem K_succ (n j : Nat) : K S (n + 1) j ↔ K S n j ∧ ¬ (K S n n ∧ S n j ∧ n < j) := by
  constructor
  · intro H
    refine ⟨fun i hi hn => H i hi (by omega), fun ⟨hg, hs, hl⟩ => H n hl (by omega) ((K_of_le le_rfl).1 hg) hs⟩
  · rintro ⟨H, H2⟩ i hi hn hg hs
    by_cases h : i < n
    · exact H i hi h hg hs
    · have : i = n := by omega
      subst this
      exact H2 ⟨(K_of_le le_rfl).2 hg, hs, hi⟩

/-- One more block of `m` boxes looked at, at a box behind the block. -/
theorem K_block (n m j : Nat) (hj : n + m ≤ j) :
    K S (n + m) j ↔ K S n j ∧ ¬ ∃ r, r < m ∧ G S (n + r) ∧ S (n + r) j := by
  constructor
  · intro H
    exact ⟨fun i hi hn => H i hi (by omega), fun ⟨r, hr, hg, hs⟩ => H (n + r) (by omega) (by omega) hg hs⟩
  · rintro ⟨H, H2⟩ i hi hn hg hs
    by_cases h : i < n
    · exact H i hi h hg hs
    · exact H2 ⟨i - n, by omega, by rwa [Nat.add_sub_cancel' (by omega)], by rwa [Nat.add_sub_cancel' (by omega)]⟩

/-- Inside a block: survival is surviving the boxes before the block and the survivors before it in the block. -/
theorem G_block (n l : Nat) :
    G S (n + l) ↔ K S n (n + l) ∧ ¬ ∃ r, r < l ∧ G S (n + r) ∧ S (n + r) (n + l) := by
  rw [← K_of_le (S := S) (n := n + l) le_rfl, K_block n l _ le_rfl]

/-- One round inside a block: right on the first `t` places, the round is right on the first `t + 1`. -/
theorem round_step {n m t : Nat} {p : Nat → Prop} (hp : ∀ l, l < t → l < m → (p l ↔ G S (n + l))) (l : Nat)
    (hl : l < t + 1) (hm : l < m) :
    (K S n (n + l) ∧ ¬ ∃ r, r < m ∧ p r ∧ (S (n + r) (n + l) ∧ r < l)) ↔ G S (n + l) := by
  rw [G_block]
  refine and_congr_right fun _ => not_congr ?_
  constructor
  · rintro ⟨r, hr, hpr, hs, hrl⟩
    exact ⟨r, hrl, (hp r (by omega) hr).1 hpr, hs⟩
  · rintro ⟨r, hrl, hg, hs⟩
    exact ⟨r, by omega, (hp r (by omega) (by omega)).2 hg, hs, hrl⟩

/-- Rounds that no longer change anything have found the survivors of the block. -/
theorem round_fix {n m : Nat} {p : Nat → Prop}
    (hp : ∀ l, l < m → (p l ↔ K S n (n + l) ∧ ¬ ∃ r, r < m ∧ p r ∧ (S (n + r) (n + l) ∧ r < l))) :
    ∀ t, ∀ l, l < t → l < m → (p l ↔ G S (n + l)) := by
  intro t
  induction t with
  | zero => intro l h; omega
  | succ t ih => intro l hl hm; rw [hp l hm]; exact round_step ih l hl hm

/-- Two overlap relations that agree below `n` have the same survivors below `n`. -/
theorem G_congr {S' : Nat → Nat → Prop} {n : Nat} (h : ∀ i j, i < n → j < n → (S i j ↔ S' i j)) :
    ∀ t j, j < t → j < n → (G S j ↔ G S' j) := by
  intro t
  induction t with
  | zero => intro j h; omega
  | succ t ih =>
    intro j hj hn
    rw [G_iff, G_iff]
    refine forall_congr' fun i => forall_congr' fun hi => ?_
    rw [ih i (by omega) (by omega), h i j (by omega) hn]

open Classical in
/-- A flag as a number. -/
noncomputable def fl (p : Prop) : EReal := if p then 1 else 0

/-- The flag of a true statement. -/
theorem fl_pos {p : Prop} (h : p) : fl p = 1 := if_pos h
/-- The flag of a false statement. -/
theorem fl_neg {p : Prop} (h : ¬ p) : fl p = 0 := if_neg h
/-- Equivalent statements have one flag. -/
theorem fl_congr {p q : Prop} (h : p ↔ q) : fl p = fl q := by rw [propext h]
/-- Flags tell statements apart. -/
theorem fl_inj {p q : Prop} (h : fl p = fl q) : p ↔ q := by
  by_cases hp : p <;> by_cases hq : q <;> simp_all [fl]
/-- A flag is not negative. -/
theorem fl_nonneg (p : Prop) : 0 ≤ fl p := by
  by_cases hp : p <;> simp [fl, hp]
/-- The product of two flags. -/
theorem fl_mul (p q : Prop) : fl p * fl q = fl (p ∧ q) := by
  by_cases hp : p <;> by_cases hq : q <;> simp [fl, hp, hq]

/-- A sum of flags is above a half exactly when one of them is up. -/
theorem half_lt_sum {n : Nat} (p : Fin n → Prop) (c : EReal) (hc : 0 < c) (hc1 : c < 1) :
    c < ∑ k, fl (p k) ↔ ∃ k, p k := by
  constructor
  · intro h
    by_contra hn
    rw [Finset.sum_eq_zero (fun k _ => fl_neg fun hk => hn ⟨k, hk⟩)] at h
    exact absurd h (not_lt.2 hc.le)
  · rintro ⟨k, hk⟩
    refine lt_of_lt_of_le hc1 ?_
    rw [← fl_pos hk]
    exact Finset.single_le_sum (f := fun k => fl (p k)) (fun i _ => fl_nonneg _) (Finset.mem_univ k)

/-! The overlap of two boxes given by their two corners and their volume: places 0 to 2 the lower corner, 3 to 5 the
    upper one, 6 the volume. -/

/-- The common extent on one axis, not below zero. -/
noncomputable def ov (p q : Nat → EReal) (a : Nat) : EReal := max (min (p (a + 3)) (q (a + 3)) - max (p a) (q a)) 0

/-- The volume of the intersection. -/
noncomputable def inter (p q : Nat → EReal) : EReal := (ov p q 0 * ov p q 1) * ov p q 2

/-- Intersection over union. -/
noncomputable def iou (p q : Nat → EReal) : EReal :=
  Idealize.ShloMosaic.Ideal.div (inter p q) ((p 6 + q 6) - inter p q)

/-- The number a half, as the programs write it. -/
noncomputable def half : EReal := Idealize.ShloMosaic.Ideal.ofBits .f32 0x3F000000#32
/-- The number two, as the programs write it. -/
noncomputable def two : EReal := Idealize.ShloMosaic.Ideal.ofBits .f32 0x40000000#32

/-- Corners and volume of the box given by its centre (0 to 2) and its sides (3 to 5). -/
noncomputable def corner (x : Nat → EReal) (r : Nat) : EReal :=
  if r < 3 then x r - Idealize.ShloMosaic.Ideal.div (x (r + 3)) two
  else if r < 6 then x (r - 3) + Idealize.ShloMosaic.Ideal.div (x r) two
  else (x 3 * x 4) * x 5

/-- Overlap of at least a half. -/
def Ovl (bx : Nat → Nat → EReal) (i j : Nat) : Prop :=
  half ≤ iou (corner fun k => bx k i) (corner fun k => bx k j)

end Cert.Nms
-- ==== Proof.Nms.Block.lean ====
module

public import proofs.«01_k».proof.Proof.Gen.KernelIdeal.Skeleton
public import proofs.«01_k».proof.Proof.Nms.Greedy
public import Idealize.ShloMosaic.Lib.Pointwise.Tactic
public import Idealize.ShloMosaic.Lib.Pointwise.Contract
public import Idealize.ShloMosaic.Lib.Pointwise.Select
public import Idealize.ShloMosaic.Lib.Pointwise.Reshape
public import Idealize.ShloMosaic.Lib.WordCmp

/-! What one block computes: the kernel's values over 128 boxes, read at an index. -/

@[expose] public section

set_option maxRecDepth 8192

noncomputable section

namespace Cert.KernelIdeal.Gen
open Idealize.ShloMosaic Cert.Nms

/-- The number a half, at the reading over extended reals. -/
theorem half_eq : half = ((1 / 2 : ℝ) : EReal) := by
  simp [half, Ideal.ofBits, Ideal.ieee, -EReal.coe_mul]; norm_num
/-- The number two, at the reading over extended reals. -/
theorem two_eq : two = ((2 : ℝ) : EReal) := by
  simp [two, Ideal.ofBits, Ideal.ieee, -EReal.coe_mul]; norm_num
/-- A half is positive. -/
theorem half_pos' : 0 < half := by rw [half_eq]; exact_mod_cast (by norm_num : (0 : ℝ) < 1 / 2)
/-- A half is below one. -/
theorem half_lt_one' : half < 1 := by rw [half_eq]; exact_mod_cast (by norm_num : (1 / 2 : ℝ) < 1)
/-- Multiplying by a half is dividing by two. -/
theorem mul_half (x : EReal) : x * half = Ideal.div x two := by
  rw [half_eq, two_eq, Ideal.div, if_neg (by exact_mod_cast (by norm_num : (2 : ℝ) ≠ 0)), ← EReal.coe_inv]
  norm_num

/-- A 128 by 128 tile of flags. -/
def IsTile (T : FVec Ideal S128x128 .f32) (s : Nat → Nat → Prop) : Prop := ∀ r l : Fin 128, T (ix2 r l) = fl (s r l)
/-- A row of 128 flags. -/
def IsRow (a : FVec Ideal S1x128 .f32) (p : Nat → Prop) : Prop := ∀ l : Fin 128, a (ix2 0 l) = fl (p l)
/-- The same row with two more unit axes. -/
def IsRow4 (a : Vec Ideal S1x1x1x128 .f32) (p : Nat → Prop) : Prop := ∀ l : Fin 128, a (ix4 0 0 0 l) = fl (p l)
/-- Four rows side by side, each the number of set flags `p` with a set tile entry. -/
def IsCount (M : FVec Ideal S1x512 .f32) (p : Nat → Prop) (s : Nat → Nat → Nat → Prop) : Prop :=
  ∀ (j : Fin 4) (l : Fin 128) (m : Fin 512), m.val = 128 * j.val + l.val → M (ix2 0 m) = ∑ k : Fin 128, fl (p k ∧ s j k l)

/-- What is left of the flags `q` when the flags `p` suppress through `s`. -/
def Left (p : Nat → Prop) (s : Nat → Nat → Prop) (q : Nat → Prop) (l : Nat) : Prop :=
  q l ∧ ¬ ∃ r, r < 128 ∧ p r ∧ s r l

/-- The seven row values of box `r` are corners and volume `p`. -/
def IsCol (a0 a1 a2 a3 a4 a5 a6 : FVec Ideal S128x1 .f32) (p : Nat → Nat → EReal) : Prop :=
  ∀ r : Fin 128, a0 (ix2 r 0) = p r 0 ∧ a1 (ix2 r 0) = p r 1 ∧ a2 (ix2 r 0) = p r 2 ∧ a3 (ix2 r 0) = p r 3 ∧
    a4 (ix2 r 0) = p r 4 ∧ a5 (ix2 r 0) = p r 5 ∧ a6 (ix2 r 0) = p r 6

/-- The tile of corners and volumes holds `q`. -/
def IsCorners (X : Vec Ideal S1x1x8x128 .f32) (q : Nat → Nat → EReal) : Prop :=
  ∀ (k : Fin 8) (l : Fin 128), k.val < 7 → X (ix4 0 0 k l) = q l k

/-- Intersection over union of every box of the rows with every box of the tile. -/
theorem iou_tile {a0 a1 a2 a3 a4 a5 a6 : FVec Ideal S128x1 .f32} {X : Vec Ideal S1x1x8x128 .f32} {p q : Nat → Nat → EReal}
    (hp : IsCol a0 a1 a2 a3 a4 a5 a6 p) (hX : IsCorners X q) (r l : Fin 128) :
    k0_pay20 a0 a1 a2 a3 a4 a5 a6 X (ix2 r l) = iou (p r) (q l) := by
  obtain ⟨h0, h1, h2, h3, h4, h5, h6⟩ := hp r
  unfold k0_pay20
  pointwise
  rw [h0, h1, h2, h3, h4, h5, h6, hX 0 l (by decide), hX 1 l (by decide), hX 2 l (by decide), hX 3 l (by decide),
    hX 4 l (by decide), hX 5 l (by decide), hX 6 l (by decide)]
  rfl

/-- A choice between one and zero is the flag of the condition. -/
theorem ite_fl (p : Prop) [Decidable p] : (if p then (1 : EReal) else 0) = fl p := by
  by_cases h : p <;> simp [fl, h]

/-- Suppressing by a count above a half is suppressing by some set flag. -/
theorem count_select (p q : Nat → Prop) (s : Nat → Nat → Prop) (l : Nat) :
    (if half < ∑ k : Fin 128, fl (p k ∧ s k l) then (0 : EReal) else fl (q l)) = fl (Left p s q l) := by
  have e := half_lt_sum (fun k : Fin 128 => p k ∧ s k l) half half_pos' half_lt_one'
  by_cases h : half < ∑ k : Fin 128, fl (p k ∧ s k l)
  · rw [if_pos h]
    obtain ⟨k, hk⟩ := e.1 h
    exact (fl_neg fun hl => hl.2 ⟨k, k.isLt, hk⟩).symm
  · rw [if_neg h]
    refine fl_congr ⟨fun hq => ⟨hq, ?_⟩, fun hl => hl.1⟩
    rintro ⟨r, hr, hk⟩
    exact h (e.2 ⟨⟨r, hr⟩, hk⟩)

/-- The flag of an overlap of at least a half. -/
theorem sup_tile {x : FVec Ideal S128x128 .f32} {f : Nat → Nat → EReal} (hx : ∀ r l : Fin 128, x (ix2 r l) = f r l) :
    IsTile (k0_pay22 x k0_pay21) (fun r l => half ≤ f r l) := by
  intro r l
  unfold k0_pay22 k0_pay21
  pointwise
  rw [hx]
  exact ite_fl _

/-- The flag of an overlap of at least a half of the row's box with a later one of the same block. -/
theorem sup_diag {x : FVec Ideal S128x128 .f32} {f : Nat → Nat → EReal} (hx : ∀ r l : Fin 128, x (ix2 r l) = f r l) :
    IsTile (k0_pay130 x k0_pay129) (fun r l => half ≤ f r l ∧ r < l) := by
  intro r l
  unfold k0_pay130 k0_pay129
  pointwise
  rw [hx, WordCmp.cmpi_sgt_ofNat (by omega) (by omega), WordCmp.andi_ofBool]
  rw [Scalar.select_ofBool]
  simp only [Bool.and_eq_true, decide_eq_true_eq]
  exact ite_fl _

/-- One round of suppression inside a block. -/
theorem pay11_row {v : FVec Ideal S128x128 .f32} {k a : FVec Ideal S1x128 .f32} {p q : Nat → Prop}
    {s : Nat → Nat → Prop} (ha : IsRow a p) (hv : IsTile v s) (hk : IsRow k q) : IsRow (k0_pay11 v k a) (Left p s q) := by
  intro l
  unfold k0_pay11
  pointwise
  have ha' : ∀ x : Fin 128, a (ix2 0 x) = fl (p x) := ha
  rw [← count_select, hk l]
  simp only [ha', fun x : Fin 128 => hv x l, fl_mul]
  rfl

/-- The same, for the second batch. -/
theorem pay12_row {v : FVec Ideal S128x128 .f32} {k a : FVec Ideal S1x128 .f32} {p q : Nat → Prop}
    {s : Nat → Nat → Prop} (ha : IsRow a p) (hv : IsTile v s) (hk : IsRow k q) : IsRow (k0_pay12 v k a) (Left p s q) :=
  pay11_row ha hv hk

/-- The counts of one block against four later blocks. -/
theorem pay43_count {v0 v1 v2 v3 : FVec Ideal S128x128 .f32} {a : FVec Ideal S1x128 .f32} {p : Nat → Prop}
    {s : Nat → Nat → Nat → Prop} (ha : IsRow a p) (h0 : IsTile v0 (s 0)) (h1 : IsTile v1 (s 1)) (h2 : IsTile v2 (s 2))
    (h3 : IsTile v3 (s 3)) : IsCount (k0_pay43 a v0 v1 v2 v3) p s := by
  intro j l m hm
  unfold k0_pay43
  pointwise
  refine Finset.sum_congr rfl fun x _ => ?_
  rw [ha x, ← fl_mul]
  congr 1
  obtain ⟨j, hj⟩ := j
  have hl := l.isLt
  rcases (by omega : j = 0 ∨ j = 1 ∨ j = 2 ∨ j = 3) with rfl | rfl | rfl | rfl
  · simp only [] at hm
    rw [dif_pos (by omega), ← h0 x l]
    congr 2
    apply Fin.ext; simp; omega
  · simp only [] at hm
    rw [dif_neg (by omega), dif_pos (by omega), ← h1 x l]
    congr 2
    apply Fin.ext; simp; omega
  · simp only [] at hm
    rw [dif_neg (by omega), dif_neg (by omega), dif_pos (by omega), ← h2 x l]
    congr 2
    apply Fin.ext; simp; omega
  · simp only [] at hm
    rw [dif_neg (by omega), dif_neg (by omega), dif_neg (by omega), ← h3 x l]
    congr 2
    apply Fin.ext; simp; omega

/-- The counts with the comparison of the last tile still to do. -/
theorem pay44_count {v0 v1 v2 x : FVec Ideal S128x128 .f32} {a : FVec Ideal S1x128 .f32} {p : Nat → Prop}
    {s : Nat → Nat → Nat → Prop} (ha : IsRow a p) (h0 : IsTile v0 (s 0)) (h1 : IsTile v1 (s 1)) (h2 : IsTile v2 (s 2))
    (h3 : IsTile (k0_pay22 x k0_pay21) (s 3)) : IsCount (k0_pay44 a v0 v1 v2 x k0_pay21) p s :=
  pay43_count ha h0 h1 h2 h3

/-- What is left of the first of the four later blocks. -/
theorem pay47_row {a : FVec Ideal S1x128 .f32} {v0 v1 v2 x h : FVec Ideal S128x128 .f32} {y : Vec Ideal S1x1x1x128 .f32}
    {p q : Nat → Prop} {s : Nat → Nat → Nat → Prop} (hM : IsCount (k0_pay44 a v0 v1 v2 x h) p s) (hy : IsRow4 y q) :
    IsRow4 (k0_pay47 (k0_pay46 a v0 v1 v2 x h y)) (Left p (s 0) q) := by
  intro l
  have e := hM 0 l ⟨l.val, by omega⟩ (by simp)
  unfold k0_pay47 k0_pay46
  pointwise
  rw [← count_select, ← hy l]
  rw [e]
  rfl

/-- What is left of the second of the four later blocks. -/
theorem pay49_row {M : FVec Ideal S1x512 .f32} {y : Vec Ideal S1x1x1x128 .f32} {p q : Nat → Prop}
    {s : Nat → Nat → Nat → Prop} (hM : IsCount M p s) (hy : IsRow4 y q) : IsRow4 (k0_pay49 M y) (Left p (s 1) q) := by
  intro l
  have e := hM 1 l ⟨128 + l.val, by omega⟩ (by simp)
  unfold k0_pay49
  pointwise
  rw [← count_select, ← hy l]
  rw [e]
  rfl

/-- What is left of the third of the four later blocks. -/
theorem pay52_row {M : FVec Ideal S1x512 .f32} {y : Vec Ideal S1x1x1x128 .f32} {p q : Nat → Prop}
    {s : Nat → Nat → Nat → Prop} (hM : IsCount M p s) (hy : IsRow4 y q) : IsRow4 (k0_pay52 M y) (Left p (s 2) q) := by
  intro l
  have e := hM 2 l ⟨256 + l.val, by omega⟩ (by simp)
  unfold k0_pay52
  pointwise
  rw [← count_select, ← hy l]
  rw [e]
  rfl

/-- What is left of the fourth of the four later blocks. -/
theorem pay137_row {M : FVec Ideal S1x512 .f32} {y : Vec Ideal S1x1x1x128 .f32} {p q : Nat → Prop}
    {s : Nat → Nat → Nat → Prop} (hM : IsCount M p s) (hy : IsRow4 y q) : IsRow4 (k0_pay137 M y) (Left p (s 3) q) := by
  intro l
  have e := hM 3 l ⟨384 + l.val, by omega⟩ (by simp)
  unfold k0_pay137
  pointwise
  rw [← count_select, ← hy l]
  rw [e]
  rfl

/-- What is left of one later block, one at a time. -/
theorem pay6_row {T : FVec Ideal S128x128 .f32} {a : FVec Ideal S1x128 .f32} {y : Vec Ideal S1x1x1x128 .f32}
    {p q : Nat → Prop} {s : Nat → Nat → Prop} (ha : IsRow a p) (hT : IsTile T s) (hy : IsRow4 y q) :
    IsRow4 (k0_pay6 a T (constant S1x128 .f32 0x00000000#32) y) (Left p s q) := by
  intro l
  unfold k0_pay6
  pointwise
  have ha' : ∀ x : Fin 128, a (ix2 0 x) = fl (p x) := ha
  rw [← count_select, ← hy l]
  simp only [ha', fun x : Fin 128 => hT x l, fl_mul]
  rfl

/-- A loaded row of flags with its unit axes dropped. -/
theorem pay132_row {y : Vec Ideal S1x1x1x128 .f32} {p : Nat → Prop} (hy : IsRow4 y p) : IsRow (k0_pay132 y) p := by
  intro l
  rw [← hy l]
  unfold k0_pay132
  pointwise

/-- A row of flags about to be stored. -/
theorem pay134_row {y : FVec Ideal S1x128 .f32} {p : Nat → Prop} (hy : IsRow y p) : IsRow4 (k0_pay134 y) p := by
  intro l
  rw [← hy l]
  unfold k0_pay134
  pointwise

/-- The distance of two flags is the flag of their difference. -/
theorem abs_fl_sub (p q : Prop) : (max (fl p - fl q) (-(fl p - fl q)) : EReal) = fl (¬ (p ↔ q)) := by
  have h0 : (1 : EReal) - 1 = 0 := by rw [← EReal.coe_one, ← EReal.coe_sub]; simp
  have h1 : (-1 : EReal) ≤ 1 := by
    rw [← EReal.coe_one, ← EReal.coe_neg]; exact EReal.coe_le_coe_iff.2 (by norm_num)
  by_cases hp : p <;> by_cases hq : q <;> simp [fl, hp, hq, h0, h1]

/-- The summed distance of two rows of flags. -/
theorem dist_row {a b : FVec Ideal S1x128 .f32} {p q : Nat → Prop} (ha : IsRow a p) (hb : IsRow b q)
    (hr : S1x1x128.Reduces [1, 2] S1) (h1 : FKind.Formats .f32) (h2 : 0x00000000#32 = FKind.add.neutral .f32 h1) :
    multiReduction FKind.add [1, 2] S1 (shapeCast S1x1x128 (absf (subf a b)) shapeCasts_S1x128_S1x1x128)
        0x00000000#32 hr h1 h2 (ix1 0) = ∑ l : Fin 128, fl (¬ (p l ↔ q l)) := by
  rw [Ideal.multiReduction_add_total _ _ _ (by decide)]
  symm
  refine Fintype.sum_bijective (fun l : Fin 128 => (ix3 0 0 l : S1x1x128.Idx)) ⟨?_, ?_⟩ _ _ ?_
  · intro x y h
    exact congrFun h (2 : Fin 3)
  · intro i
    refine ⟨i (2 : Fin 3), ?_⟩
    funext a
    fin_cases a
    · exact Subsingleton.elim (α := Fin 1) _ _
    · exact Subsingleton.elim (α := Fin 1) _ _
    · rfl
  · intro l
    rw [← abs_fl_sub, ← ha l, ← hb l]
    pointwise
    rfl

/-- What a round reports: in how many places it differs from the state before it. -/
theorem pay13_eq {v v' : FVec Ideal S128x128 .f32} {k k' a a' : FVec Ideal S1x128 .f32} {p p' q q' : Nat → Prop}
    (ha : IsRow a p) (ha' : IsRow a' p') (hn : IsRow (k0_pay11 v k a) q) (hn' : IsRow (k0_pay12 v' k' a') q') :
    k0_pay13 v k v' k' a a' = ∑ l : Fin 128, fl (¬ (q l ↔ p l)) + ∑ l : Fin 128, fl (¬ (q' l ↔ p' l)) := by
  unfold k0_pay13
  pointwise
  exact congrArg₂ (fun x y : EReal => x + y) (dist_row hn ha _ _ _) (dist_row hn' ha' _ _ _)

/-- When a round reports no change, it has changed nothing. -/
theorem pay13_stop {v v' : FVec Ideal S128x128 .f32} {k k' a a' : FVec Ideal S1x128 .f32} {p p' q q' : Nat → Prop}
    (ha : IsRow a p) (ha' : IsRow a' p') (hn : IsRow (k0_pay11 v k a) q) (hn' : IsRow (k0_pay12 v' k' a') q')
    (h : ¬ (0 : EReal) < k0_pay13 v k v' k' a a') : ∀ l, l < 128 → ((q l ↔ p l) ∧ (q' l ↔ p' l)) := by
  rw [pay13_eq ha ha' hn hn'] at h
  have n1 : ∀ f : Nat → Prop, (0 : EReal) ≤ ∑ l : Fin 128, fl (f l) := fun f =>
    Finset.sum_nonneg fun _ _ => fl_nonneg _
  have key : ∀ f : Nat → Prop, ¬ (0 : EReal) < ∑ l : Fin 128, fl (f l) → ∀ l, l < 128 → ¬ f l := by
    intro f hf l hl hfl
    apply hf
    refine lt_of_lt_of_le zero_lt_one ?_
    rw [← fl_pos hfl]
    exact Finset.single_le_sum (f := fun l : Fin 128 => fl (f l)) (fun i _ => fl_nonneg _) (Finset.mem_univ ⟨l, hl⟩)
  intro l hl
  constructor
  · exact not_not.1 (key (fun l => ¬ (q l ↔ p l)) (fun h' => h (lt_of_lt_of_le h' (le_add_of_nonneg_right (n1 fun l => ¬ (q' l ↔ p' l))))) l hl)
  · exact not_not.1 (key (fun l => ¬ (q' l ↔ p' l)) (fun h' => h (lt_of_lt_of_le h' (le_add_of_nonneg_left (n1 fun l => ¬ (q l ↔ p l))))) l hl)

/-- A round that changes nothing reports no change. -/
theorem pay13_still {v v' : FVec Ideal S128x128 .f32} {k k' a a' : FVec Ideal S1x128 .f32} {p p' q q' : Nat → Prop}
    (ha : IsRow a p) (ha' : IsRow a' p') (hn : IsRow (k0_pay11 v k a) q) (hn' : IsRow (k0_pay12 v' k' a') q')
    (h : ∀ l, l < 128 → ((q l ↔ p l) ∧ (q' l ↔ p' l))) : ¬ (0 : EReal) < k0_pay13 v k v' k' a a' := by
  rw [pay13_eq ha ha' hn hn', Finset.sum_eq_zero (fun (l : Fin 128) _ => fl_neg (not_not.2 (h l l.isLt).1)),
    Finset.sum_eq_zero (fun (l : Fin 128) _ => fl_neg (not_not.2 (h l l.isLt).2))]
  simp

/-- The seven row values the kernel takes from the transposed boxes. -/
theorem col_rows0 {X : Vec Ideal S1x1x128x6 .f32} {x : Nat → Nat → EReal}
    (hX : ∀ (r : Fin 128) (k : Fin 6), X (ix4 0 0 r k) = x r k) :
    IsCol (k0_pay101 X) (k0_pay102 X) (k0_pay103 X) (k0_pay104 X) (k0_pay105 X) (k0_pay106 X) (k0_pay107 X)
      (fun r => corner (x r)) := by
  intro r
  simp only [k0_pay101, k0_pay102, k0_pay103, k0_pay104, k0_pay105, k0_pay106, k0_pay107, k0_pay95, k0_pay96, k0_pay97,
    k0_pay98, k0_pay99, k0_pay100, k0_pay94]
  pointwise
  rw [hX r 0, hX r 1, hX r 2, hX r 3, hX r 4, hX r 5]
  exact ⟨rfl, rfl, rfl, rfl, rfl, rfl, rfl⟩

/-- The same rows of the second batch. -/
theorem col_rows1 {X : Vec Ideal S1x1x128x6 .f32} {x : Nat → Nat → EReal}
    (hX : ∀ (r : Fin 128) (k : Fin 6), X (ix4 0 0 r k) = x r k) :
    IsCol (k0_pay115 X) (k0_pay116 X) (k0_pay117 (k0_pay111 X) (k0_pay114 X) (Scalar.ofBits .f32 0x40000000#32))
      (k0_pay118 (k0_pay109 X) (k0_pay112 X)) (k0_pay119 (k0_pay110 X) (k0_pay113 X))
      (k0_pay120 (k0_pay111 X) (k0_pay114 X)) (k0_pay121 (k0_pay112 X) (k0_pay113 X) (k0_pay114 X))
      (fun r => corner (x r)) := col_rows0 hX

/-- The lower corners the kernel lays out, first batch. -/
theorem lo_rows0 {X : Vec Ideal S1x1x6x128 .f32} {x : Nat → Nat → EReal}
    (hX : ∀ (k : Fin 6) (l : Fin 128), X (ix4 0 0 k l) = x l k) (k : Fin 3) (l : Fin 128) :
    k0_pay15 X (ix4 0 0 k l) = corner (x l) k := by
  simp only [k0_pay15, k0_pay14]
  pointwise
  rw [hX ⟨k, by omega⟩ l, hX ⟨3 + k, by omega⟩ l]
  rw [corner, if_pos k.isLt, ← mul_half, Nat.add_comm k.val 3]
  rfl

/-- The upper corners the kernel lays out, first batch. -/
theorem hi_rows0 {X : Vec Ideal S1x1x6x128 .f32} {x : Nat → Nat → EReal}
    (hX : ∀ (k : Fin 6) (l : Fin 128), X (ix4 0 0 k l) = x l k) (k : Fin 3) (l : Fin 128) :
    k0_pay16 X (ix4 0 0 k l) = corner (x l) (3 + k) := by
  simp only [k0_pay16, k0_pay14]
  pointwise
  rw [hX ⟨k, by omega⟩ l, hX ⟨3 + k, by omega⟩ l]
  rw [corner, if_neg (by omega), if_pos (by omega), ← mul_half, Nat.add_sub_cancel_left]
  rfl

/-- The volumes the kernel lays out, first batch. -/
theorem vol_row0 {X : Vec Ideal S1x1x6x128 .f32} {x : Nat → Nat → EReal}
    (hX : ∀ (k : Fin 6) (l : Fin 128), X (ix4 0 0 k l) = x l k) (l : Fin 128) :
    k0_pay17 X (ix4 0 0 0 l) = corner (x l) 6 := by
  simp only [k0_pay17, k0_pay14]
  pointwise
  rw [hX 3 l, hX 4 l, hX 5 l]
  rfl

/-- The lower corners the kernel lays out, second batch. -/
theorem lo_rows1 {X : Vec Ideal S1x1x6x128 .f32} {x : Nat → Nat → EReal}
    (hX : ∀ (k : Fin 6) (l : Fin 128), X (ix4 0 0 k l) = x l k) (k : Fin 3) (l : Fin 128) :
    k0_pay2 (k0_pay19 X) (ix4 0 0 k l) = corner (x l) k := lo_rows0 hX k l

/-- The upper corners the kernel lays out, second batch. -/
theorem hi_rows1 {X : Vec Ideal S1x1x6x128 .f32} {x : Nat → Nat → EReal}
    (hX : ∀ (k : Fin 6) (l : Fin 128), X (ix4 0 0 k l) = x l k) (k : Fin 3) (l : Fin 128) :
    k0_pay3 (k0_pay18 X) (ix4 0 0 k l) = corner (x l) (3 + k) := hi_rows0 hX k l

/-- The volumes the kernel lays out, second batch. -/
theorem vol_row1 {X : Vec Ideal S1x1x6x128 .f32} {x : Nat → Nat → EReal}
    (hX : ∀ (k : Fin 6) (l : Fin 128), X (ix4 0 0 k l) = x l k) (l : Fin 128) :
    k0_pay4 (k0_pay18 X) (ix4 0 0 0 l) = corner (x l) 6 := vol_row0 hX l

end Cert.KernelIdeal.Gen
-- ==== Proof.Nms.Offs.lean ====
module

public import proofs.«01_k».proof.Proof.Gen.KernelIdeal.Skeleton
public import proofs.«01_k».proof.Proof.Gen.KernelIdeal.Loops
public import Idealize.ShloMosaic.Lib.Exec

/-! The trip counts of the suppression loops and the offsets of the blocks they read and write, in closed form: inside
block `B`'s step, trip `k` of the grouped loop works on the blocks `B + 1 + 4 k + j` for `j < 4`, and trip `k` of the loop
over the rest works on the block `B + 1 + 4 ⌊(39 - B) / 4⌋ + k`. -/

@[expose] public section

namespace Cert.KernelIdeal.Gen

open Idealize.ShloMosaic

/-- The loop over the blocks makes forty trips. -/
theorem t1_trips : k0_t1_loop.trips = 40 := by decide +kernel
/-- So does the loop over the row blocks. -/
theorem t2_trips : k0_t2_loop.trips = 40 := by decide +kernel
/-- The grouped loop makes one trip per four of the later blocks. -/
theorem t3_trips : ∀ B : Fin k0_t2_loop.trips, (k0_t3_loop B).trips = (39 - B.val) / 4 := by decide +kernel
/-- The loop over the rest makes the remaining trips. -/
theorem t5_trips : ∀ B : Fin k0_t2_loop.trips, (k0_t5_loop B).trips = (39 - B.val) % 4 := by decide +kernel

/-- Grouped loop, column 0: the first batch element's columns at the block worked on. -/
theorem k0_off15_0_eq : ∀ (B : Fin k0_t2_loop.trips) (k : Fin (k0_t3_loop B).trips), k0_off15 B k 0#32 = ![0, B.val + 1 + 4 * k.val + 0, 0, 0] := by decide +kernel
instance (B : Fin k0_t2_loop.trips) (k : Fin (k0_t3_loop B).trips) : ClosedOff (k0_off15 B k 0#32) := ⟨_, k0_off15_0_eq B k⟩

/-- Grouped loop, column 1: the first batch element's columns at the block worked on. -/
theorem k0_off15_1_eq : ∀ (B : Fin k0_t2_loop.trips) (k : Fin (k0_t3_loop B).trips), k0_off15 B k 1#32 = ![0, B.val + 1 + 4 * k.val + 1, 0, 0] := by decide +kernel
instance (B : Fin k0_t2_loop.trips) (k : Fin (k0_t3_loop B).trips) : ClosedOff (k0_off15 B k 1#32) := ⟨_, k0_off15_1_eq B k⟩

/-- Grouped loop, column 2: the first batch element's columns at the block worked on. -/
theorem k0_off15_2_eq : ∀ (B : Fin k0_t2_loop.trips) (k : Fin (k0_t3_loop B).trips), k0_off15 B k 2#32 = ![0, B.val + 1 + 4 * k.val + 2, 0, 0] := by decide +kernel
instance (B : Fin k0_t2_loop.trips) (k : Fin (k0_t3_loop B).trips) : ClosedOff (k0_off15 B k 2#32) := ⟨_, k0_off15_2_eq B k⟩

/-- Grouped loop, column 3: the first batch element's columns at the block worked on. -/
theorem k0_off15_3_eq : ∀ (B : Fin k0_t2_loop.trips) (k : Fin (k0_t3_loop B).trips), k0_off15 B k 3#32 = ![0, B.val + 1 + 4 * k.val + 3, 0, 0] := by decide +kernel
instance (B : Fin k0_t2_loop.trips) (k : Fin (k0_t3_loop B).trips) : ClosedOff (k0_off15 B k 3#32) := ⟨_, k0_off15_3_eq B k⟩

/-- Grouped loop, column 0: the second batch element's columns at the block worked on. -/
theorem k0_off16_0_eq : ∀ (B : Fin k0_t2_loop.trips) (k : Fin (k0_t3_loop B).trips), k0_off16 B k 0#32 = ![1, B.val + 1 + 4 * k.val + 0, 0, 0] := by decide +kernel
instance (B : Fin k0_t2_loop.trips) (k : Fin (k0_t3_loop B).trips) : ClosedOff (k0_off16 B k 0#32) := ⟨_, k0_off16_0_eq B k⟩

/-- Grouped loop, column 1: the second batch element's columns at the block worked on. -/
theorem k0_off16_1_eq : ∀ (B : Fin k0_t2_loop.trips) (k : Fin (k0_t3_loop B).trips), k0_off16 B k 1#32 = ![1, B.val + 1 + 4 * k.val + 1, 0, 0] := by decide +kernel
instance (B : Fin k0_t2_loop.trips) (k : Fin (k0_t3_loop B).trips) : ClosedOff (k0_off16 B k 1#32) := ⟨_, k0_off16_1_eq B k⟩

/-- Grouped loop, column 2: the second batch element's columns at the block worked on. -/
theorem k0_off16_2_eq : ∀ (B : Fin k0_t2_loop.trips) (k : Fin (k0_t3_loop B).trips), k0_off16 B k 2#32 = ![1, B.val + 1 + 4 * k.val + 2, 0, 0] := by decide +kernel
instance (B : Fin k0_t2_loop.trips) (k : Fin (k0_t3_loop B).trips) : ClosedOff (k0_off16 B k 2#32) := ⟨_, k0_off16_2_eq B k⟩

/-- Grouped loop, column 3: the second batch element's columns at the block worked on. -/
theorem k0_off16_3_eq : ∀ (B : Fin k0_t2_loop.trips) (k : Fin (k0_t3_loop B).trips), k0_off16 B k 3#32 = ![1, B.val + 1 + 4 * k.val + 3, 0, 0] := by decide +kernel
instance (B : Fin k0_t2_loop.trips) (k : Fin (k0_t3_loop B).trips) : ClosedOff (k0_off16 B k 3#32) := ⟨_, k0_off16_3_eq B k⟩

/-- Grouped loop, column 0: the first batch element's flags at the block worked on. -/
theorem k0_off17_0_eq : ∀ (B : Fin k0_t2_loop.trips) (k : Fin (k0_t3_loop B).trips), k0_off17 B k 0#32 = ![0, B.val + 1 + 4 * k.val + 0, 0, 0] := by decide +kernel
instance (B : Fin k0_t2_loop.trips) (k : Fin (k0_t3_loop B).trips) : ClosedOff (k0_off17 B k 0#32) := ⟨_, k0_off17_0_eq B k⟩

/-- Grouped loop, column 1: the first batch element's flags at the block worked on. -/
theorem k0_off17_1_eq : ∀ (B : Fin k0_t2_loop.trips) (k : Fin (k0_t3_loop B).trips), k0_off17 B k 1#32 = ![0, B.val + 1 + 4 * k.val + 1, 0, 0] := by decide +kernel
instance (B : Fin k0_t2_loop.trips) (k : Fin (k0_t3_loop B).trips) : ClosedOff (k0_off17 B k 1#32) := ⟨_, k0_off17_1_eq B k⟩

/-- Grouped loop, column 2: the first batch element's flags at the block worked on. -/
theorem k0_off17_2_eq : ∀ (B : Fin k0_t2_loop.trips) (k : Fin (k0_t3_loop B).trips), k0_off17 B k 2#32 = ![0, B.val + 1 + 4 * k.val + 2, 0, 0] := by decide +kernel
instance (B : Fin k0_t2_loop.trips) (k : Fin (k0_t3_loop B).trips) : ClosedOff (k0_off17 B k 2#32) := ⟨_, k0_off17_2_eq B k⟩

/-- Grouped loop, column 3: the first batch element's flags at the block worked on. -/
theorem k0_off17_3_eq : ∀ (B : Fin k0_t2_loop.trips) (k : Fin (k0_t3_loop B).trips), k0_off17 B k 3#32 = ![0, B.val + 1 + 4 * k.val + 3, 0, 0] := by decide +kernel
instance (B : Fin k0_t2_loop.trips) (k : Fin (k0_t3_loop B).trips) : ClosedOff (k0_off17 B k 3#32) := ⟨_, k0_off17_3_eq B k⟩

/-- Grouped loop, column 0: the second batch element's flags at the block worked on. -/
theorem k0_off18_0_eq : ∀ (B : Fin k0_t2_loop.trips) (k : Fin (k0_t3_loop B).trips), k0_off18 B k 0#32 = ![1, B.val + 1 + 4 * k.val + 0, 0, 0] := by decide +kernel
instance (B : Fin k0_t2_loop.trips) (k : Fin (k0_t3_loop B).trips) : ClosedOff (k0_off18 B k 0#32) := ⟨_, k0_off18_0_eq B k⟩

/-- Grouped loop, column 1: the second batch element's flags at the block worked on. -/
theorem k0_off18_1_eq : ∀ (B : Fin k0_t2_loop.trips) (k : Fin (k0_t3_loop B).trips), k0_off18 B k 1#32 = ![1, B.val + 1 + 4 * k.val + 1, 0, 0] := by decide +kernel
instance (B : Fin k0_t2_loop.trips) (k : Fin (k0_t3_loop B).trips) : ClosedOff (k0_off18 B k 1#32) := ⟨_, k0_off18_1_eq B k⟩

/-- Grouped loop, column 2: the second batch element's flags at the block worked on. -/
theorem k0_off18_2_eq : ∀ (B : Fin k0_t2_loop.trips) (k : Fin (k0_t3_loop B).trips), k0_off18 B k 2#32 = ![1, B.val + 1 + 4 * k.val + 2, 0, 0] := by decide +kernel
instance (B : Fin k0_t2_loop.trips) (k : Fin (k0_t3_loop B).trips) : ClosedOff (k0_off18 B k 2#32) := ⟨_, k0_off18_2_eq B k⟩

/-- Grouped loop, column 3: the second batch element's flags at the block worked on. -/
theorem k0_off18_3_eq : ∀ (B : Fin k0_t2_loop.trips) (k : Fin (k0_t3_loop B).trips), k0_off18 B k 3#32 = ![1, B.val + 1 + 4 * k.val + 3, 0, 0] := by decide +kernel
instance (B : Fin k0_t2_loop.trips) (k : Fin (k0_t3_loop B).trips) : ClosedOff (k0_off18 B k 3#32) := ⟨_, k0_off18_3_eq B k⟩

/-- Loop over the rest: the first batch element's columns at the block worked on. -/
theorem k0_off23_eq : ∀ (B : Fin k0_t2_loop.trips) (k : Fin (k0_t5_loop B).trips), k0_off23 B k = ![0, B.val + 1 + 4 * ((39 - B.val) / 4) + k.val, 0, 0] := by decide +kernel
instance (B : Fin k0_t2_loop.trips) (k : Fin (k0_t5_loop B).trips) : ClosedOff (k0_off23 B k) := ⟨_, k0_off23_eq B k⟩

/-- Loop over the rest: the second batch element's columns at the block worked on. -/
theorem k0_off24_eq : ∀ (B : Fin k0_t2_loop.trips) (k : Fin (k0_t5_loop B).trips), k0_off24 B k = ![1, B.val + 1 + 4 * ((39 - B.val) / 4) + k.val, 0, 0] := by decide +kernel
instance (B : Fin k0_t2_loop.trips) (k : Fin (k0_t5_loop B).trips) : ClosedOff (k0_off24 B k) := ⟨_, k0_off24_eq B k⟩

/-- Loop over the rest: the first batch element's flags at the block worked on. -/
theorem k0_off25_eq : ∀ (B : Fin k0_t2_loop.trips) (k : Fin (k0_t5_loop B).trips), k0_off25 B k = ![0, B.val + 1 + 4 * ((39 - B.val) / 4) + k.val, 0, 0] := by decide +kernel
instance (B : Fin k0_t2_loop.trips) (k : Fin (k0_t5_loop B).trips) : ClosedOff (k0_off25 B k) := ⟨_, k0_off25_eq B k⟩

/-- Loop over the rest: the second batch element's flags at the block worked on. -/
theorem k0_off26_eq : ∀ (B : Fin k0_t2_loop.trips) (k : Fin (k0_t5_loop B).trips), k0_off26 B k = ![1, B.val + 1 + 4 * ((39 - B.val) / 4) + k.val, 0, 0] := by decide +kernel
instance (B : Fin k0_t2_loop.trips) (k : Fin (k0_t5_loop B).trips) : ClosedOff (k0_off26 B k) := ⟨_, k0_off26_eq B k⟩

end Cert.KernelIdeal.Gen
-- ==== Proof.Nms.Trips.lean ====
module

public import proofs.«01_k».proof.Proof.Nms.Offs
public import Idealize.ShloMosaic.Lib.Tactic
public import Idealize.ShloMosaic.Lib.Pipeline.Kit
public import Idealize.ShloMosaic.Lib.LoopRemainder

/-! One trip of the grouped loop and one of the loop over the rest, run: what each leaves in the flags' scratch buffer. -/

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip, the columns at `X` and the flags at `f`: the blocks it writes over the flags. -/
@[irreducible] def trip_k0_t3 (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (k0_t2 : Fin k0_t2_loop.trips) (arg8 : BitVec 32) (v27 : FVec F S128x1 .f32) (v30 : FVec F S128x1 .f32) (v33 : FVec F S128x1 .f32) (v36 : FVec F S128x1 .f32) (v39 : FVec F S128x1 .f32) (v42 : FVec F S128x1 .f32) (v44 : FVec F S128x1 .f32) (v56 : FVec F S128x1 .f32) (v59 : FVec F S128x1 .f32) (v62 : FVec F S128x1 .f32) (v65 : FVec F S128x1 .f32) (v68 : FVec F S128x1 .f32) (v71 : FVec F S128x1 .f32) (v73 : FVec F S128x1 .f32) (v183_0 : FVec F S1x128 .f32) (v183_1 : FVec F S1x128 .f32) (v193 : BitVec 32) (c4_i32 : BitVec 32) (v194 : BitVec 32) (v196 : BitVec 32) (v198 : BitVec 32) (X : BufTy.Contents (Elt F) arg7.view.ty) (f : BufTy.Contents (Elt F) arg6.view.ty) (k : Fin (k0_t3_loop k0_t2).trips) :
    { L : List (View.Piece (Elt F) S2x40x1x128 .f32) // ∀ (E : Set ℕ),
      iprop((arg7.view.loc (c : Thread nD τ) ↦[arg7.view.set]{fullShare} X) ∗ (arg6.view.loc (c : Thread nD τ) ↦[arg6.view.set]{fullShare} f))
      ⊢ wp frame (wpE (defs₀ (F := F)) 𝒱 (c : Thread nD τ) bd) E (k0_t3_body (F := F) i arg1 harg1 arg2 harg2 arg3 harg3 arg4 harg4 arg5 harg5 arg6 harg6 arg7 harg7 k0_t2 arg8 v27 v30 v33 v36 v39 v42 v44 v56 v59 v62 v65 v68 v71 v73 v183_0 v183_1 v193 c4_i32 v194 v196 v198 k PUnit.unit)
          (fun _ => (iprop((arg7.view.loc (c : Thread nD τ) ↦[arg7.view.set]{fullShare} X) ∗ (arg6.view.loc (c : Thread nD τ) ↦[arg6.view.set]{fullShare} (arg6.view.writes (Elt F) f L))) : sProp 𝕄G)) } := by
  have hB : k0_t2.val < 40 := Nat.lt_of_lt_of_eq k0_t2.isLt t2_trips
  have hk : k.val < (39 - k0_t2.val) / 4 := Nat.lt_of_lt_of_eq k.isLt (t3_trips k0_t2)
  refine ⟨?_, fun E => ?run⟩
  case run =>
    unfold k0_t3_body
    iintro ⟨H7, H6⟩
    sl_exec
    sl_step
    sl_close

/-- One trip, the columns at `X` and the flags at `f`: the blocks it writes over the flags. -/
@[irreducible] def trip_k0_t5 (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (k0_t2 : Fin k0_t2_loop.trips) (v27 : FVec F S128x1 .f32) (v30 : FVec F S128x1 .f32) (v33 : FVec F S128x1 .f32) (v36 : FVec F S128x1 .f32) (v39 : FVec F S128x1 .f32) (v42 : FVec F S128x1 .f32) (v44 : FVec F S128x1 .f32) (v56 : FVec F S128x1 .f32) (v59 : FVec F S128x1 .f32) (v62 : FVec F S128x1 .f32) (v65 : FVec F S128x1 .f32) (v68 : FVec F S128x1 .f32) (v71 : FVec F S128x1 .f32) (v73 : FVec F S128x1 .f32) (v183_0 : FVec F S1x128 .f32) (v183_1 : FVec F S1x128 .f32) (v235 : BitVec 32) (X : BufTy.Contents (Elt F) arg7.view.ty) (f : BufTy.Contents (Elt F) arg6.view.ty) (k : Fin (k0_t5_loop k0_t2).trips) :
    { L : List (View.Piece (Elt F) S2x40x1x128 .f32) // ∀ (E : Set ℕ),
      iprop((arg7.view.loc (c : Thread nD τ) ↦[arg7.view.set]{fullShare} X) ∗ (arg6.view.loc (c : Thread nD τ) ↦[arg6.view.set]{fullShare} f))
      ⊢ wp frame (wpE (defs₀ (F := F)) 𝒱 (c : Thread nD τ) bd) E (k0_t5_body (F := F) i arg1 harg1 arg2 harg2 arg3 harg3 arg4 harg4 arg5 harg5 arg6 harg6 arg7 harg7 k0_t2 v27 v30 v33 v36 v39 v42 v44 v56 v59 v62 v65 v68 v71 v73 v183_0 v183_1 v235 k PUnit.unit)
          (fun _ => (iprop((arg7.view.loc (c : Thread nD τ) ↦[arg7.view.set]{fullShare} X) ∗ (arg6.view.loc (c : Thread nD τ) ↦[arg6.view.set]{fullShare} (arg6.view.writes (Elt F) f L))) : sProp 𝕄G)) } := by
  have hB : k0_t2.val < 40 := Nat.lt_of_lt_of_eq k0_t2.isLt t2_trips
  have hk : k.val < (39 - k0_t2.val) % 4 := Nat.lt_of_lt_of_eq k.isLt (t5_trips k0_t2)
  refine ⟨?_, fun E => ?run⟩
  case run =>
    unfold k0_t5_body
    iintro ⟨H7, H6⟩
    sl_exec
    sl_step
    sl_close

end Cert.KernelIdeal.Gen

end
-- ==== Proof.Nms.Flags.lean ====
module

public import proofs.«01_k».proof.Proof.Nms.Block
public import proofs.«01_k».proof.Proof.Nms.Trips
public import Idealize.ShloMosaic.Lib.WritesUnit
public import Idealize.ShloMosaic.Lib.VecWindow

/-! What the scratch arrays hold: the flags of every box while the blocks are worked through, and the corners and
    volumes. -/

@[expose] public section

set_option maxRecDepth 8192

noncomputable section

namespace Cert.KernelIdeal.Gen
open Idealize.ShloMosaic Cert.Nms

section Arrays
variable {sig : RefSig} {κ : Kind} {sp : Space}

/-- A load at a unit-stride rectangle, at an index: what the view reads at the offset plus the index. -/
theorem readAt_unit_at {s : Shape} {e : EltTy} {Val : EltTy → Type} (v : View sig κ sp s e) (f : v.ty.Contents Val)
    {off off' size : Fin s.rank → ℕ} (inb : ∀ a, off a + size a ≤ s.size a) (h : off = off')
    (x : (Rect.unit off size inb).shape.Idx) (y : s.Idx) (hx : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hx a, Nat.one_mul]))

/-- The flags' array holds `q`. -/
def HasKeep (v : View sig κ sp S2x40x1x128 .f32) (f : v.ty.Contents (Elt Ideal)) (q : Nat → Nat → Nat → Prop) : Prop :=
  ∀ (b : Fin 2) (w : Fin 40) (l : Fin 128), v.read (Elt Ideal) f (ix4 b w 0 l) = fl (q b w l)

/-- The array of corners and volumes holds `q`. -/
def HasCol (v : View sig κ sp S2x40x8x128 .f32) (f : v.ty.Contents (Elt Ideal)) (q : Nat → Nat → Nat → Nat → EReal) : Prop :=
  ∀ (b : Fin 2) (w : Fin 40) (k : Fin 8) (l : Fin 128), k.val < 7 → v.read (Elt Ideal) f (ix4 b w k l) = q b w l k

variable {v : View sig κ sp S2x40x1x128 .f32} {f : v.ty.Contents (Elt Ideal)}

/-- Equivalent flags. -/
theorem HasKeep.congr {q q' : Nat → Nat → Nat → Prop} (h : HasKeep v f q)
    (e : ∀ b w l, b < 2 → w < 40 → l < 128 → (q b w l ↔ q' b w l)) : HasKeep v f q' := fun b w l => by
  rw [h b w l]; exact fl_congr (e _ _ _ b.isLt w.isLt l.isLt)

/-- A row of flags loaded. -/
theorem HasKeep.load {q : Nat → Nat → Nat → Prop} (h : HasKeep v f q) {off : Fin 4 → Nat} {b w : Nat}
    (inb : ∀ a, off a + ![1, 1, 1, 128] a ≤ S2x40x1x128.size a) (e : off = ![b, w, 0, 0]) :
    IsRow4 (v.readAt (Elt Ideal) (Rect.unit (s := S2x40x1x128) off ![1, 1, 1, 128] inb).toLoadRect f) (q b w) := by
  intro l
  have hb := inb 0
  have hw := inb 1
  subst e
  refine (readAt_unit_at v f inb rfl _ (ix4 ⟨b, Nat.lt_of_succ_le hb⟩ ⟨w, Nat.lt_of_succ_le hw⟩ 0 l) ?_).trans (h _ _ l)
  intro a
  fin_cases a <;> simp
  all_goals rfl

/-- A row of flags stored. -/
theorem HasKeep.store {L : List (View.Piece (Elt Ideal) S2x40x1x128 .f32)} {q : Nat → Nat → Nat → Prop}
    (h : HasKeep v (v.writes (Elt Ideal) f L) q) {off : Fin 4 → Nat} {b w : Nat}
    (inb : ∀ a, off a + ![1, 1, 1, 128] a ≤ S2x40x1x128.size a) (e : off = ![b, w, 0, 0])
    {x : Vec Ideal S1x1x1x128 .f32} {p : Nat → Prop} (hx : IsRow4 x p) :
    HasKeep v (v.writes (Elt Ideal) f ((⟨Rect.unit (s := S2x40x1x128) off ![1, 1, 1, 128] inb, x⟩) :: L))
      (fun b' w' l => if b' = b ∧ w' = w then p l else q b' w' l) := by
  intro b' w' l
  show _ = fl (if b'.val = b ∧ w'.val = w then p l else q b' w' l)
  by_cases hh : b'.val = b ∧ w'.val = w
  · rw [if_pos hh]
    refine (View.read_writes_cons_unit_of_mem v f inb x L _ (ix4 0 0 0 l : S1x1x1x128.Idx) e ?_).trans (hx l)
    obtain ⟨rfl, rfl⟩ := hh
    intro a
    fin_cases a <;> simp
    all_goals rfl
  · rw [if_neg hh]
    by_cases hb : b'.val = b
    · refine (View.read_writes_cons_unit_of_not_mem v f inb x L _ e (1 : Fin 4) ?_).trans (h b' w' l)
      show w'.val < w ∨ w + 1 ≤ w'.val
      have : ¬ w'.val = w := fun e => hh ⟨hb, e⟩
      omega
    · refine (View.read_writes_cons_unit_of_not_mem v f inb x L _ e (0 : Fin 4) ?_).trans (h b' w' l)
      show b'.val < b ∨ b + 1 ≤ b'.val
      omega

/-- The corners and volumes of a block loaded. -/
theorem HasCol.load {v : View sig κ sp S2x40x8x128 .f32} {f : v.ty.Contents (Elt Ideal)} {q : Nat → Nat → Nat → Nat → EReal}
    (h : HasCol v f q) {off : Fin 4 → Nat} {b w : Nat}
    (inb : ∀ a, off a + ![1, 1, 8, 128] a ≤ S2x40x8x128.size a) (e : off = ![b, w, 0, 0]) :
    IsCorners (v.readAt (Elt Ideal) (Rect.unit (s := S2x40x8x128) off ![1, 1, 8, 128] inb).toLoadRect f) (q b w) := by
  intro k l hk
  have hb := inb 0
  have hw := inb 1
  subst e
  refine (readAt_unit_at v f inb rfl _ (ix4 ⟨b, Nat.lt_of_succ_le hb⟩ ⟨w, Nat.lt_of_succ_le hw⟩ k l) ?_).trans (h _ _ k l hk)
  intro a
  fin_cases a <;> simp
  all_goals rfl

end Arrays

/-! ### The flags while block `B` is worked through -/

/-- The boxes of a batch in blocks: corners and volume of box `l` of block `w`. -/
def colOf (bx : Nat → Nat → Nat → EReal) (b w l : Nat) : Nat → EReal := corner fun k => bx b k (128 * w + l)

/-- The flags when the blocks before `B` have suppressed everywhere, and block `B` the blocks before `w0` (first batch)
    and before `w1` (second batch). -/
def kst (bx : Nat → Nat → Nat → EReal) (B w0 w1 b w l : Nat) : Prop :=
  K (Ovl (bx b)) (128 * (if w < (if b = 0 then w0 else w1) then B + 1 else B)) (128 * w + l)

variable {bx : Nat → Nat → Nat → EReal}

/-- Blocks up to the one worked through are final already. -/
theorem kst_start (B b w l : Nat) (hl : l < 128) : kst bx B 0 0 b w l ↔ kst bx B B B b w l := by
  unfold kst
  simp only [ite_self, Nat.not_lt_zero, if_false]
  by_cases h : w < B
  · rw [if_pos h, K_of_le (by omega), K_of_le (by omega)]
  · rw [if_neg h]

/-- A block worked through is the next one not begun. -/
theorem kst_end (B b w l : Nat) (hw : w < 40) : kst bx B 40 40 b w l ↔ kst bx (B + 1) 0 0 b w l := by
  unfold kst
  simp only [ite_self, Nat.not_lt_zero, if_false, if_pos hw]

section Steps
variable {sig : RefSig} {κ : Kind} {sp : Space} {v : View sig κ sp S2x40x1x128 .f32} {f : v.ty.Contents (Elt Ideal)}

/-- One more block of the first batch suppressed. -/
theorem keep_step0 {L : List (View.Piece (Elt Ideal) S2x40x1x128 .f32)} {B w0 w1 : Nat}
    (h : HasKeep v (v.writes (Elt Ideal) f L) (kst bx B w0 w1)) {off : Fin 4 → Nat}
    (inb : ∀ a, off a + ![1, 1, 1, 128] a ≤ S2x40x1x128.size a) (e : off = ![0, w0, 0, 0])
    {x : Vec Ideal S1x1x1x128 .f32} (hx : IsRow4 x fun l => K (Ovl (bx 0)) (128 * (B + 1)) (128 * w0 + l)) :
    HasKeep v (v.writes (Elt Ideal) f ((⟨Rect.unit (s := S2x40x1x128) off ![1, 1, 1, 128] inb, x⟩) :: L))
      (kst bx B (w0 + 1) w1) := by
  refine (h.store inb e hx).congr fun b w l hb hw hl => ?_
  unfold kst
  by_cases h0 : b = 0
  · subst h0
    simp only [if_true, true_and]
    by_cases h1 : w = w0
    · subst h1
      rw [if_pos rfl, if_pos (by omega)]
    · rw [if_neg h1]
      by_cases h2 : w < w0
      · rw [if_pos h2, if_pos (by omega)]
      · rw [if_neg h2, if_neg (by omega)]
  · simp only [h0, false_and, if_false]

/-- One more block of the second batch suppressed. -/
theorem keep_step1 {L : List (View.Piece (Elt Ideal) S2x40x1x128 .f32)} {B w0 w1 : Nat}
    (h : HasKeep v (v.writes (Elt Ideal) f L) (kst bx B w0 w1)) {off : Fin 4 → Nat}
    (inb : ∀ a, off a + ![1, 1, 1, 128] a ≤ S2x40x1x128.size a) (e : off = ![1, w1, 0, 0])
    {x : Vec Ideal S1x1x1x128 .f32} (hx : IsRow4 x fun l => K (Ovl (bx 1)) (128 * (B + 1)) (128 * w1 + l)) :
    HasKeep v (v.writes (Elt Ideal) f ((⟨Rect.unit (s := S2x40x1x128) off ![1, 1, 1, 128] inb, x⟩) :: L))
      (kst bx B w0 (w1 + 1)) := by
  refine (h.store inb e hx).congr fun b w l hb hw hl => ?_
  unfold kst
  by_cases h0 : b = 1
  · subst h0
    simp only [one_ne_zero, if_false, true_and]
    by_cases h1 : w = w1
    · subst h1
      rw [if_pos rfl, if_pos (by omega)]
    · rw [if_neg h1]
      by_cases h2 : w < w1
      · rw [if_pos h2, if_pos (by omega)]
      · rw [if_neg h2, if_neg (by omega)]
  · have : b = 0 := by omega
    subst this
    simp only [h0, false_and, if_false, if_true]

/-- What block `B` leaves of a later block. -/
theorem left_row {x : Vec Ideal S1x1x1x128 .f32} {b B w : Nat} {q : Nat → Prop} (hw : B < w)
    (hx : IsRow4 x (Left (fun r => G (Ovl (bx b)) (128 * B + r)) (fun r l => half ≤ iou (colOf bx b B r) (colOf bx b w l)) q))
    (hq : ∀ l, l < 128 → (q l ↔ K (Ovl (bx b)) (128 * B) (128 * w + l))) :
    IsRow4 x fun l => K (Ovl (bx b)) (128 * (B + 1)) (128 * w + l) := by
  intro l
  rw [hx l]
  refine fl_congr ?_
  show _ ↔ K (Ovl (bx b)) (128 * B + 128) (128 * w + l)
  rw [K_block _ _ _ (by omega)]
  unfold Left
  rw [hq l l.isLt]
  rfl

end Steps

end Cert.KernelIdeal.Gen
-- ==== Proof.Nms.Group.lean ====
module

public import proofs.«01_k».proof.Proof.Nms.Flags

/-! One trip of the two loops over later blocks, in terms of the flags. -/

@[expose] public section

set_option maxRecDepth 8192

noncomputable section

namespace Cert.KernelIdeal.Gen
open Idealize.ShloMosaic Cert.Nms

/-- The tile of a block of rows and a block of columns. -/
theorem tile_of {bx : Nat → Nat → Nat → EReal} {b B w : Nat} {a0 a1 a2 a3 a4 a5 a6 : FVec Ideal S128x1 .f32}
    {X : Vec Ideal S1x1x8x128 .f32} (hp : IsCol a0 a1 a2 a3 a4 a5 a6 (colOf bx b B)) (hX : IsCorners X (colOf bx b w)) :
    IsTile (k0_pay22 (k0_pay20 a0 a1 a2 a3 a4 a5 a6 X) k0_pay21) (fun r l => half ≤ iou (colOf bx b B r) (colOf bx b w l)) :=
  sup_tile (f := fun r l => iou (colOf bx b B r) (colOf bx b w l)) (iou_tile hp hX)

set_option maxHeartbeats 4000000 in
/-- A trip of the grouped loop suppresses four more blocks in both batches. -/
theorem trip3_keep (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (k0_t2 : Fin k0_t2_loop.trips) (arg8 : BitVec 32) (v27 : FVec Ideal S128x1 .f32) (v30 : FVec Ideal S128x1 .f32) (v33 : FVec Ideal S128x1 .f32) (v36 : FVec Ideal S128x1 .f32) (v39 : FVec Ideal S128x1 .f32) (v42 : FVec Ideal S128x1 .f32) (v44 : FVec Ideal S128x1 .f32) (v56 : FVec Ideal S128x1 .f32) (v59 : FVec Ideal S128x1 .f32) (v62 : FVec Ideal S128x1 .f32) (v65 : FVec Ideal S128x1 .f32) (v68 : FVec Ideal S128x1 .f32) (v71 : FVec Ideal S128x1 .f32) (v73 : FVec Ideal S128x1 .f32) (v183_0 : FVec Ideal S1x128 .f32) (v183_1 : FVec Ideal S1x128 .f32) (v193 : BitVec 32) (c4_i32 : BitVec 32) (v194 : BitVec 32) (v196 : BitVec 32) (v198 : BitVec 32) (X : BufTy.Contents (Elt Ideal) arg7.view.ty) (f : BufTy.Contents (Elt Ideal) arg6.view.ty) (k : Fin (k0_t3_loop k0_t2).trips)
    {bx : Nat → Nat → Nat → EReal} (hX : HasCol arg7.view X (colOf bx))
    (hC0 : IsCol v27 v30 v33 v36 v39 v42 v44 (colOf bx 0 k0_t2)) (hC1 : IsCol v56 v59 v62 v65 v68 v71 v73 (colOf bx 1 k0_t2))
    (ha0 : IsRow v183_0 fun r => G (Ovl (bx 0)) (128 * k0_t2.val + r)) (ha1 : IsRow v183_1 fun r => G (Ovl (bx 1)) (128 * k0_t2.val + r))
    (hf : HasKeep arg6.view f (kst bx k0_t2 (k0_t2.val + 1 + 4 * k.val) (k0_t2.val + 1 + 4 * k.val))) :
    HasKeep arg6.view (arg6.view.writes (Elt Ideal) f (trip_k0_t3 (F := Ideal) 𝒱 c bd i arg1 harg1 arg2 harg2 arg3 harg3 arg4 harg4 arg5 harg5 arg6 harg6 arg7 harg7 k0_t2 arg8 v27 v30 v33 v36 v39 v42 v44 v56 v59 v62 v65 v68 v71 v73 v183_0 v183_1 v193 c4_i32 v194 v196 v198 X f k).1)
      (kst bx k0_t2 (k0_t2.val + 1 + 4 * k.val + 4) (k0_t2.val + 1 + 4 * k.val + 4)) := by
  have old : ∀ (b m : Nat) (off : Fin 4 → Nat) (inb : ∀ a, off a + ![1, 1, 1, 128] a ≤ S2x40x1x128.size a),
      off = ![b, k0_t2.val + 1 + 4 * k.val + m, 0, 0] →
      IsRow4 (arg6.view.readAt (Elt Ideal) (Rect.unit (s := S2x40x1x128) off ![1, 1, 1, 128] inb).toLoadRect f)
        (fun l => kst bx k0_t2 (k0_t2.val + 1 + 4 * k.val) (k0_t2.val + 1 + 4 * k.val) b (k0_t2.val + 1 + 4 * k.val + m) l) :=
    fun b m off inb e => hf.load inb e
  have oldK : ∀ (b m l : Nat), l < 128 →
      (kst bx k0_t2 (k0_t2.val + 1 + 4 * k.val) (k0_t2.val + 1 + 4 * k.val) b (k0_t2.val + 1 + 4 * k.val + m) l
        ↔ K (Ovl (bx b)) (128 * k0_t2.val) (128 * (k0_t2.val + 1 + 4 * k.val + m) + l)) := by
    intro b m l _
    unfold kst
    rw [ite_self, if_neg (by omega)]
  have M0 := pay43_count (s := fun j r l => half ≤ iou (colOf bx 0 k0_t2 r) (colOf bx 0 (k0_t2.val + 1 + 4 * k.val + j) l)) ha0
    (tile_of hC0 (hX.load (k0_off15_inb k0_t2 k 0) (k0_off15_0_eq k0_t2 k))) (tile_of hC0 (hX.load (k0_off15_inb k0_t2 k 1) (k0_off15_1_eq k0_t2 k)))
    (tile_of hC0 (hX.load (k0_off15_inb k0_t2 k 2) (k0_off15_2_eq k0_t2 k))) (tile_of hC0 (hX.load (k0_off15_inb k0_t2 k 3) (k0_off15_3_eq k0_t2 k)))
  have M1 := pay43_count (s := fun j r l => half ≤ iou (colOf bx 1 k0_t2 r) (colOf bx 1 (k0_t2.val + 1 + 4 * k.val + j) l)) ha1
    (tile_of hC1 (hX.load (k0_off16_inb k0_t2 k 0) (k0_off16_0_eq k0_t2 k))) (tile_of hC1 (hX.load (k0_off16_inb k0_t2 k 1) (k0_off16_1_eq k0_t2 k)))
    (tile_of hC1 (hX.load (k0_off16_inb k0_t2 k 2) (k0_off16_2_eq k0_t2 k))) (tile_of hC1 (hX.load (k0_off16_inb k0_t2 k 3) (k0_off16_3_eq k0_t2 k)))
  unfold trip_k0_t3
  dsimp only
  refine keep_step1 (w1 := k0_t2.val + 1 + 4 * k.val + 3) ?_ _ (k0_off18_3_eq k0_t2 k) (left_row (by omega) (pay137_row M1 (old 1 3 _ (k0_off18_inb k0_t2 k 3) (k0_off18_3_eq k0_t2 k))) (oldK 1 3))
  refine keep_step0 (w0 := k0_t2.val + 1 + 4 * k.val + 3) ?_ _ (k0_off17_3_eq k0_t2 k) (left_row (by omega) (pay137_row M0 (old 0 3 _ (k0_off17_inb k0_t2 k 3) (k0_off17_3_eq k0_t2 k))) (oldK 0 3))
  refine keep_step1 (w1 := k0_t2.val + 1 + 4 * k.val + 2) ?_ _ (k0_off18_2_eq k0_t2 k) (left_row (by omega) (pay52_row M1 (old 1 2 _ (k0_off18_inb k0_t2 k 2) (k0_off18_2_eq k0_t2 k))) (oldK 1 2))
  refine keep_step0 (w0 := k0_t2.val + 1 + 4 * k.val + 2) ?_ _ (k0_off17_2_eq k0_t2 k) (left_row (by omega) (pay52_row M0 (old 0 2 _ (k0_off17_inb k0_t2 k 2) (k0_off17_2_eq k0_t2 k))) (oldK 0 2))
  refine keep_step1 (w1 := k0_t2.val + 1 + 4 * k.val + 1) ?_ _ (k0_off18_1_eq k0_t2 k) (left_row (by omega) (pay49_row M1 (old 1 1 _ (k0_off18_inb k0_t2 k 1) (k0_off18_1_eq k0_t2 k))) (oldK 1 1))
  refine keep_step0 (w0 := k0_t2.val + 1 + 4 * k.val + 1) ?_ _ (k0_off17_1_eq k0_t2 k) (left_row (by omega) (pay49_row M0 (old 0 1 _ (k0_off17_inb k0_t2 k 1) (k0_off17_1_eq k0_t2 k))) (oldK 0 1))
  refine keep_step1 (w1 := k0_t2.val + 1 + 4 * k.val + 0) ?_ _ (k0_off18_0_eq k0_t2 k) (left_row (by omega) (pay47_row M1 (old 1 0 _ (k0_off18_inb k0_t2 k 0) (k0_off18_0_eq k0_t2 k))) (oldK 1 0))
  refine keep_step0 (w0 := k0_t2.val + 1 + 4 * k.val + 0) ?_ _ (k0_off17_0_eq k0_t2 k) (left_row (by omega) (pay47_row M0 (old 0 0 _ (k0_off17_inb k0_t2 k 0) (k0_off17_0_eq k0_t2 k))) (oldK 0 0))
  exact hf

set_option maxHeartbeats 4000000 in
/-- A trip of the loop over the rest suppresses one more block in both batches. -/
theorem trip5_keep (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (k0_t2 : Fin k0_t2_loop.trips) (v27 : FVec Ideal S128x1 .f32) (v30 : FVec Ideal S128x1 .f32) (v33 : FVec Ideal S128x1 .f32) (v36 : FVec Ideal S128x1 .f32) (v39 : FVec Ideal S128x1 .f32) (v42 : FVec Ideal S128x1 .f32) (v44 : FVec Ideal S128x1 .f32) (v56 : FVec Ideal S128x1 .f32) (v59 : FVec Ideal S128x1 .f32) (v62 : FVec Ideal S128x1 .f32) (v65 : FVec Ideal S128x1 .f32) (v68 : FVec Ideal S128x1 .f32) (v71 : FVec Ideal S128x1 .f32) (v73 : FVec Ideal S128x1 .f32) (v183_0 : FVec Ideal S1x128 .f32) (v183_1 : FVec Ideal S1x128 .f32) (v235 : BitVec 32) (X : BufTy.Contents (Elt Ideal) arg7.view.ty) (f : BufTy.Contents (Elt Ideal) arg6.view.ty) (k : Fin (k0_t5_loop k0_t2).trips)
    {bx : Nat → Nat → Nat → EReal} (hX : HasCol arg7.view X (colOf bx))
    (hC0 : IsCol v27 v30 v33 v36 v39 v42 v44 (colOf bx 0 k0_t2)) (hC1 : IsCol v56 v59 v62 v65 v68 v71 v73 (colOf bx 1 k0_t2))
    (ha0 : IsRow v183_0 fun r => G (Ovl (bx 0)) (128 * k0_t2.val + r)) (ha1 : IsRow v183_1 fun r => G (Ovl (bx 1)) (128 * k0_t2.val + r))
    (hf : HasKeep arg6.view f (kst bx k0_t2 (k0_t2.val + 1 + 4 * ((39 - k0_t2.val) / 4) + k.val) (k0_t2.val + 1 + 4 * ((39 - k0_t2.val) / 4) + k.val))) :
    HasKeep arg6.view (arg6.view.writes (Elt Ideal) f (trip_k0_t5 (F := Ideal) 𝒱 c bd i arg1 harg1 arg2 harg2 arg3 harg3 arg4 harg4 arg5 harg5 arg6 harg6 arg7 harg7 k0_t2 v27 v30 v33 v36 v39 v42 v44 v56 v59 v62 v65 v68 v71 v73 v183_0 v183_1 v235 X f k).1)
      (kst bx k0_t2 (k0_t2.val + 1 + 4 * ((39 - k0_t2.val) / 4) + k.val + 1) (k0_t2.val + 1 + 4 * ((39 - k0_t2.val) / 4) + k.val + 1)) := by
  have oldK : ∀ (b l : Nat), l < 128 →
      (kst bx k0_t2 (k0_t2.val + 1 + 4 * ((39 - k0_t2.val) / 4) + k.val) (k0_t2.val + 1 + 4 * ((39 - k0_t2.val) / 4) + k.val) b (k0_t2.val + 1 + 4 * ((39 - k0_t2.val) / 4) + k.val) l
        ↔ K (Ovl (bx b)) (128 * k0_t2.val) (128 * (k0_t2.val + 1 + 4 * ((39 - k0_t2.val) / 4) + k.val) + l)) := by
    intro b l _
    unfold kst
    rw [ite_self, if_neg (by omega)]
  have T0 := tile_of hC0 (hX.load (k0_off23_inb k0_t2 k) (k0_off23_eq k0_t2 k))
  have T1 := tile_of hC1 (hX.load (k0_off24_inb k0_t2 k) (k0_off24_eq k0_t2 k))
  unfold trip_k0_t5
  dsimp only
  refine keep_step1 ?_ _ (k0_off26_eq k0_t2 k) (left_row (by omega) (pay6_row ha1 T1 (hf.load (k0_off26_inb k0_t2 k) (k0_off26_eq k0_t2 k))) (oldK 1))
  refine keep_step0 ?_ _ (k0_off25_eq k0_t2 k) (left_row (by omega) (pay6_row ha0 T0 (hf.load (k0_off25_inb k0_t2 k) (k0_off25_eq k0_t2 k))) (oldK 0))
  exact hf

end Cert.KernelIdeal.Gen
-- ==== Proof.Nms.Inner.lean ====
module

public import proofs.«01_k».proof.Proof.Nms.Group
public import proofs.«01_k».proof.Proof.Gen.KernelIdeal.Loops

/-! The two loops over later blocks by invariants on the flags. -/

@[expose] public section

set_option maxRecDepth 8192
set_option warn.classDefReducibility false

noncomputable section

namespace Cert.KernelIdeal.Gen

open Idealize.ShloMosaic Idealize.ShloMosaic.TcCoe Idealize.ShloMosaic.Tactic Cert.Nms
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- The grouped loop: before trip `k`, block `B` has suppressed the `4 k` blocks behind it. -/
def loopInv_k0_t3 (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (k0_t2 : Fin k0_t2_loop.trips) (arg8 : BitVec 32) (v27 : FVec Ideal S128x1 .f32) (v30 : FVec Ideal S128x1 .f32) (v33 : FVec Ideal S128x1 .f32) (v36 : FVec Ideal S128x1 .f32) (v39 : FVec Ideal S128x1 .f32) (v42 : FVec Ideal S128x1 .f32) (v44 : FVec Ideal S128x1 .f32) (v56 : FVec Ideal S128x1 .f32) (v59 : FVec Ideal S128x1 .f32) (v62 : FVec Ideal S128x1 .f32) (v65 : FVec Ideal S128x1 .f32) (v68 : FVec Ideal S128x1 .f32) (v71 : FVec Ideal S128x1 .f32) (v73 : FVec Ideal S128x1 .f32) (v183_0 : FVec Ideal S1x128 .f32) (v183_1 : FVec Ideal S1x128 .f32) (v193 : BitVec 32) (c4_i32 : BitVec 32) (v194 : BitVec 32) (v196 : BitVec 32) (v198 : BitVec 32) (X : BufTy.Contents (Elt Ideal) arg7.view.ty)  (E : Set ℕ)
    {bx : Nat → Nat → Nat → EReal} (hX : HasCol arg7.view X (colOf bx))
    (hC0 : IsCol v27 v30 v33 v36 v39 v42 v44 (colOf bx 0 k0_t2)) (hC1 : IsCol v56 v59 v62 v65 v68 v71 v73 (colOf bx 1 k0_t2))
    (ha0 : IsRow v183_0 fun r => G (Ovl (bx 0)) (128 * k0_t2.val + r)) (ha1 : IsRow v183_1 fun r => G (Ovl (bx 1)) (128 * k0_t2.val + r))
    : LoopInvTy_k0_t3 (F := Ideal) Unit ℕ (UR sig nD τ) ℕ 𝒱 c bd E i arg1 harg1 arg2 harg2 arg3 harg3 arg4 harg4 arg5 harg5 arg6 harg6 arg7 harg7 k0_t2 arg8 v27 v30 v33 v36 v39 v42 v44 v56 v59 v62 v65 v68 v71 v73 v183_0 v183_1 v193 c4_i32 v194 v196 v198 where
  inv k _ := (iprop((arg7.view.loc (c : Thread nD τ) ↦[arg7.view.set]{fullShare} X) ∗ (∃ f, (arg6.view.loc (c : Thread nD τ) ↦[arg6.view.set]{fullShare} f) ∗ ⌜HasKeep arg6.view f (kst bx k0_t2 (k0_t2.val + 1 + 4 * k) (k0_t2.val + 1 + 4 * k))⌝)) : sProp 𝕄I)
  step k acc := by
    iintro ⟨H7, ⟨%f, H6, %hf⟩⟩
    iapply (wp_wand_r Idealize.ShloMosaic.frame (wpE (defs₀ (F := Ideal)) 𝒱 (c : Thread nD τ) bd) E)
    isplitl [H7 H6]
    · iapply ((trip_k0_t3 (F := Ideal) 𝒱 c bd i arg1 harg1 arg2 harg2 arg3 harg3 arg4 harg4 arg5 harg5 arg6 harg6 arg7 harg7 k0_t2 arg8 v27 v30 v33 v36 v39 v42 v44 v56 v59 v62 v65 v68 v71 v73 v183_0 v183_1 v193 c4_i32 v194 v196 v198 X f k).2 E)
      isplitl [H7]; · iexact H7
      iexact H6
    · iintro %_ ⟨H7, H6⟩
      isplitl [H7]; · iexact H7
      iexists _; isplitl [H6]; · iexact H6
      ipureintro
      exact trip3_keep 𝒱 c bd i arg1 harg1 arg2 harg2 arg3 harg3 arg4 harg4 arg5 harg5 arg6 harg6 arg7 harg7 k0_t2 arg8 v27 v30 v33 v36 v39 v42 v44 v56 v59 v62 v65 v68 v71 v73 v183_0 v183_1 v193 c4_i32 v194 v196 v198 X f k hX hC0 hC1 ha0 ha1 hf

/-- The loop over the rest: before trip `k`, block `B` has suppressed the groups and `k` more blocks. -/
def loopInv_k0_t5 (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (k0_t2 : Fin k0_t2_loop.trips) (v27 : FVec Ideal S128x1 .f32) (v30 : FVec Ideal S128x1 .f32) (v33 : FVec Ideal S128x1 .f32) (v36 : FVec Ideal S128x1 .f32) (v39 : FVec Ideal S128x1 .f32) (v42 : FVec Ideal S128x1 .f32) (v44 : FVec Ideal S128x1 .f32) (v56 : FVec Ideal S128x1 .f32) (v59 : FVec Ideal S128x1 .f32) (v62 : FVec Ideal S128x1 .f32) (v65 : FVec Ideal S128x1 .f32) (v68 : FVec Ideal S128x1 .f32) (v71 : FVec Ideal S128x1 .f32) (v73 : FVec Ideal S128x1 .f32) (v183_0 : FVec Ideal S1x128 .f32) (v183_1 : FVec Ideal S1x128 .f32) (v235 : BitVec 32) (X : BufTy.Contents (Elt Ideal) arg7.view.ty)  (E : Set ℕ)
    {bx : Nat → Nat → Nat → EReal} (hX : HasCol arg7.view X (colOf bx))
    (hC0 : IsCol v27 v30 v33 v36 v39 v42 v44 (colOf bx 0 k0_t2)) (hC1 : IsCol v56 v59 v62 v65 v68 v71 v73 (colOf bx 1 k0_t2))
    (ha0 : IsRow v183_0 fun r => G (Ovl (bx 0)) (128 * k0_t2.val + r)) (ha1 : IsRow v183_1 fun r => G (Ovl (bx 1)) (128 * k0_t2.val + r))
    : LoopInvTy_k0_t5 (F := Ideal) Unit ℕ (UR sig nD τ) ℕ 𝒱 c bd E i arg1 harg1 arg2 harg2 arg3 harg3 arg4 harg4 arg5 harg5 arg6 harg6 arg7 harg7 k0_t2 v27 v30 v33 v36 v39 v42 v44 v56 v59 v62 v65 v68 v71 v73 v183_0 v183_1 v235 where
  inv k _ := (iprop((arg7.view.loc (c : Thread nD τ) ↦[arg7.view.set]{fullShare} X) ∗ (∃ f, (arg6.view.loc (c : Thread nD τ) ↦[arg6.view.set]{fullShare} f) ∗ ⌜HasKeep arg6.view f (kst bx k0_t2 (k0_t2.val + 1 + 4 * ((39 - k0_t2.val) / 4) + k) (k0_t2.val + 1 + 4 * ((39 - k0_t2.val) / 4) + k))⌝)) : sProp 𝕄I)
  step k acc := by
    iintro ⟨H7, ⟨%f, H6, %hf⟩⟩
    iapply (wp_wand_r Idealize.ShloMosaic.frame (wpE (defs₀ (F := Ideal)) 𝒱 (c : Thread nD τ) bd) E)
    isplitl [H7 H6]
    · iapply ((trip_k0_t5 (F := Ideal) 𝒱 c bd i arg1 harg1 arg2 harg2 arg3 harg3 arg4 harg4 arg5 harg5 arg6 harg6 arg7 harg7 k0_t2 v27 v30 v33 v36 v39 v42 v44 v56 v59 v62 v65 v68 v71 v73 v183_0 v183_1 v235 X f k).2 E)
      isplitl [H7]; · iexact H7
      iexact H6
    · iintro %_ ⟨H7, H6⟩
      isplitl [H7]; · iexact H7
      iexists _; isplitl [H6]; · iexact H6
      ipureintro
      exact trip5_keep 𝒱 c bd i arg1 harg1 arg2 harg2 arg3 harg3 arg4 harg4 arg5 harg5 arg6 harg6 arg7 harg7 k0_t2 v27 v30 v33 v36 v39 v42 v44 v56 v59 v62 v65 v68 v71 v73 v183_0 v183_1 v235 X f k hX hC0 hC1 ha0 ha1 hf

end Cert.KernelIdeal.Gen
-- ==== Proof.Nms.While.lean ====
module

public import proofs.«01_k».proof.Proof.Nms.Flags
public import Idealize.ShloMosaic.Lib.Tactic
public import Idealize.ShloMosaic.Lib.Pipeline.Kit

/-! The rounds inside a block: after `n` of them the first `n` boxes are final, and they stop with the survivors of the
    block. -/

@[expose] public section

set_option maxRecDepth 8192

noncomputable section

namespace Cert.KernelIdeal.Gen

open Idealize.ShloMosaic Idealize.ShloMosaic.TcCoe Idealize.ShloMosaic.Tactic Cert.Nms
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- A call of the loop's label uses up one of finitely many rounds. -/
abbrev 𝒱₀ : Variants := Variants.nat

/-- The state of the rounds of block `B` after `n` of them. -/
def Rounds (bx : Nat → Nat → Nat → EReal) (B n : Nat) (a9 a10 : FVec Ideal S1x128 .f32) (ch : EReal) : Prop :=
  ∃ p0 p1 : Nat → Prop, IsRow a9 p0 ∧ IsRow a10 p1 ∧
    (∀ l, l < n → l < 128 → (p0 l ↔ G (Ovl (bx 0)) (128 * B + l))) ∧
    (∀ l, l < n → l < 128 → (p1 l ↔ G (Ovl (bx 1)) (128 * B + l))) ∧
    (129 ≤ n → ¬ 0 < ch) ∧
    (¬ 0 < ch → ∀ l, l < 128 → ((p0 l ↔ G (Ovl (bx 0)) (128 * B + l)) ∧ (p1 l ↔ G (Ovl (bx 1)) (128 * B + l))))

/-- The tile of overlaps inside block `B`. -/
def Diag (bx : Nat → Nat → Nat → EReal) (b B : Nat) (T : FVec Ideal S128x128 .f32) : Prop :=
  IsTile T fun r l => half ≤ iou (colOf bx b B r) (colOf bx b B l) ∧ r < l

/-- The flags of block `B` before its rounds. -/
def Before (bx : Nat → Nat → Nat → EReal) (b B : Nat) (a : FVec Ideal S1x128 .f32) : Prop :=
  IsRow a fun l => K (Ovl (bx b)) (128 * B) (128 * B + l)

/-- The flags of block `B` after its rounds. -/
def After (bx : Nat → Nat → Nat → EReal) (b B : Nat) (a : FVec Ideal S1x128 .f32) : Prop :=
  IsRow a fun l => G (Ovl (bx b)) (128 * B + l)

variable {bx : Nat → Nat → Nat → EReal} {B : Nat} {v170 v176 : FVec Ideal S128x128 .f32} {v179 v182 : FVec Ideal S1x128 .f32}

/-- The rounds begin. -/
theorem rounds_zero (h0 : Before bx 0 B v179) (h1 : Before bx 1 B v182) : Rounds bx B 0 v179 v182 1 :=
  ⟨_, _, h0, h1, fun l h => absurd h (Nat.not_lt_zero l), fun l h => absurd h (Nat.not_lt_zero l), fun h => by omega,
    fun h => absurd zero_lt_one h⟩

/-- One more round. -/
theorem rounds_succ (hT0 : Diag bx 0 B v170) (hT1 : Diag bx 1 B v176) (h0 : Before bx 0 B v179) (h1 : Before bx 1 B v182)
    {n : Nat} {a9 a10 : FVec Ideal S1x128 .f32} {ch : EReal} (h : Rounds bx B n a9 a10 ch) :
    Rounds bx B (n + 1) (k0_pay11 v170 v179 a9) (k0_pay12 v176 v182 a10) (k0_pay13 v170 v179 v176 v182 a9 a10) := by
  obtain ⟨p0, p1, r0, r1, g0, g1, -, -⟩ := h
  have n0 := pay11_row r0 hT0 h0
  have n1 := pay12_row r1 hT1 h1
  have s0 : ∀ l, l < n + 1 → l < 128 → (_ ↔ G (Ovl (bx 0)) (128 * B + l)) := fun l hl hm => round_step g0 l hl hm
  have s1 : ∀ l, l < n + 1 → l < 128 → (_ ↔ G (Ovl (bx 1)) (128 * B + l)) := fun l hl hm => round_step g1 l hl hm
  refine ⟨_, _, n0, n1, s0, s1, fun hn => ?_, fun hc => ?_⟩
  · refine pay13_still r0 r1 n0 n1 fun l hl => ⟨?_, ?_⟩
    · exact (s0 l (by omega) hl).trans (g0 l (by omega) hl).symm
    · exact (s1 l (by omega) hl).trans (g1 l (by omega) hl).symm
  · have e := pay13_stop r0 r1 n0 n1 hc
    have f0 := round_fix (S := Ovl (bx 0)) (n := 128 * B) (m := 128) (p := p0) (fun l hl => (e l hl).1.symm) 128
    have f1 := round_fix (S := Ovl (bx 1)) (n := 128 * B) (m := 128) (p := p1) (fun l hl => (e l hl).2.symm) 128
    exact fun l hl => ⟨(e l hl).1.trans (f0 l hl hl), (e l hl).2.trans (f1 l hl hl)⟩

/-- The rounds stop with the survivors of the block. -/
theorem rounds_stop {n : Nat} {a9 a10 : FVec Ideal S1x128 .f32} {ch : EReal} (h : Rounds bx B n a9 a10 ch) (hc : ¬ 0 < ch) :
    After bx 0 B a9 ∧ After bx 1 B a10 := by
  obtain ⟨p0, p1, r0, r1, -, -, -, e⟩ := h
  exact ⟨fun l => (r0 l).trans (fl_congr (e hc l l.isLt).1), fun l => (r1 l).trans (fl_congr (e hc l l.isLt).2)⟩

/-- What the caller of the rounds learns: the two rows are the survivors of the block. -/
def whileSpec (bx : Nat → Nat → Nat → EReal) (B : Nat) : sWPT 𝕄I (FVec Ideal S1x128 .f32 × FVec Ideal S1x128 .f32 × Ideal .f32) := do
  let r ← sWPT.arbitrary
  sWPT.assume (After bx 0 B r.1 ∧ After bx 1 B r.2.1)
  pure r

/-- The specification, spelt out. -/
theorem whileSpec_apply (K : FVec Ideal S1x128 .f32 × FVec Ideal S1x128 .f32 × Ideal .f32 → sProp 𝕄I) :
    whileSpec bx B K = iprop(∀ r : FVec Ideal S1x128 .f32 × FVec Ideal S1x128 .f32 × Ideal .f32,
      ⌜After bx 0 B r.1 ∧ After bx 1 B r.2.1⌝ -∗ K r) := rfl

/-- The label's body meets the specification, with `k` rounds still allowed. -/
theorem whileSpec_le (c : Dev nD) (E : Set ℕ) (i : grid0.Coords) (k0_t2 : Fin k0_t2_loop.trips)
    (hT0 : Diag bx 0 B v170) (hT1 : Diag bx 1 B v176) (h0 : Before bx 0 B v179) (h1 : Before bx 1 B v182) :
    ∀ (k n : ℕ), n + k = 129 → ∀ (a9 a10 : FVec Ideal S1x128 .f32) (ch : Ideal .f32), Rounds bx B n a9 a10 ch → ∀ K,
      whileSpec bx B K ⊢ wp frame (wpE (defs₀ (F := Ideal)) 𝒱₀ (c : Thread nD τ) (some k)) E
        (defs₀ (F := Ideal) .tc 1 ⟨i, k0_t2, v170, v179, v176, v182, a9, a10, ch⟩) K := by
  intro k
  induction k with
  | zero =>
    intro n hn a9 a10 ch hR K
    rw [whileSpec_apply]
    show _ ⊢ wp frame (wpE (defs₀ (F := Ideal)) 𝒱₀ (c : Thread nD τ) (some 0)) E
      (cc0_while1 i k0_t2 v170 v179 v176 v182 a9 a10 ch) K
    have hc : ¬ (0 : EReal) < ch := by obtain ⟨_, _, _, _, _, _, e, _⟩ := hR; exact e (by omega)
    have htest : ¬ Scalar.cmpf .ogt ch (Scalar.ofBits .f32 0x00000000#32 : Ideal .f32) = 1#1 := by
      rw [show (Scalar.ofBits .f32 0x00000000#32 : Ideal .f32) = 0 from Ideal.ofBits_zero_f32]
      exact fun e => hc ((Ideal.cmp_ogt_eq_one _ _).1 e)
    simp only [cc0_while1_eq_skeleton]; unfold cc0_while1_skel
    simp only [htest, ↓reduceIte, Prog.lift, Prog.bind_op, Prog.bind_ret, Prog.pure_eq_ret]
    iintro Hk
    rw [wp_ret]; imodintro
    iapply Hk
    ipureintro; exact rounds_stop hR hc
  | succ k ih =>
    intro n hn a9 a10 ch hR K
    rw [whileSpec_apply]
    show _ ⊢ wp frame (wpE (defs₀ (F := Ideal)) 𝒱₀ (c : Thread nD τ) (some (k + 1))) E
      (cc0_while1 i k0_t2 v170 v179 v176 v182 a9 a10 ch) K
    simp only [cc0_while1_eq_skeleton]; unfold cc0_while1_skel
    by_cases htest : Scalar.cmpf .ogt ch (Scalar.ofBits .f32 0x00000000#32 : Ideal .f32) = 1#1
    · simp only [htest, ↓reduceIte, Prog.lift, Prog.bind_op, Prog.bind_ret, Prog.pure_eq_ret]
      iintro Hk
      iapply (wp_call_spec 𝒱₀ (c : Thread nD τ) (some (k + 1)) E (whileSpec bx B) k
        (fun u hu => by cases hu; exact Nat.lt_succ_self k)
        (ih (n + 1) (by omega) _ _ _ (rounds_succ hT0 hT1 h0 h1 hR)))
      rw [whileSpec_apply]
      iintro %r %hr
      rw [wp_ret]; imodintro
      iapply Hk
      ipureintro; exact hr
    · have hc : ¬ (0 : EReal) < ch := by
        intro e
        apply htest
        rw [show (Scalar.ofBits .f32 0x00000000#32 : Ideal .f32) = 0 from Ideal.ofBits_zero_f32]
        exact (Ideal.cmp_ogt_eq_one _ _).2 e
      simp only [htest, ↓reduceIte, Prog.lift, Prog.bind_op, Prog.bind_ret, Prog.pure_eq_ret]
      iintro Hk
      rw [wp_ret]; imodintro
      iapply Hk
      ipureintro; exact rounds_stop hR hc

end Cert.KernelIdeal.Gen
-- ==== Proof.Nms.Outer.lean ====
module

public import proofs.«01_k».proof.Proof.Nms.Inner
public import proofs.«01_k».proof.Proof.Nms.While
public import proofs.«01_k».proof.Proof.Gen.KernelIdeal.Loops
import Idealize.ShloMosaic.Lib.LoopRemainder

/-! One block of the outer loop. -/

@[expose] public section

set_option maxRecDepth 8192
set_option warn.classDefReducibility false

noncomputable section

namespace Cert.KernelIdeal.Gen

open Idealize.ShloMosaic Idealize.ShloMosaic.TcCoe Idealize.ShloMosaic.Tactic Cert.Nms
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- The memory holds the boxes of both images in blocks of 128. -/
def HasBox (v : View sig .tc .vmem S2x40x128x6 .f32) (X : BufTy.Contents (Elt Ideal) v.ty) (bx : Nat → Nat → Nat → EReal) : Prop :=
  ∀ (b : Fin 2) (w : Fin 40) (l : Fin 128) (k : Fin 6), v.read (Elt Ideal) X (ix4 b w l k) = bx b k (128 * w + l)

/-- A block of boxes loaded. -/
theorem HasBox.load {v : View sig .tc .vmem S2x40x128x6 .f32} {X : BufTy.Contents (Elt Ideal) v.ty} {bx : Nat → Nat → Nat → EReal}
    (h : HasBox v X bx) {off : Fin 4 → Nat} {b w : Nat}
    (inb : ∀ a, off a + ![1, 1, 128, 6] a ≤ S2x40x128x6.size a) (e : off = ![b, w, 0, 0]) (r : Fin 128) (k : Fin 6) :
    v.readAt (Elt Ideal) (Rect.unit (s := S2x40x128x6) off ![1, 1, 128, 6] inb).toLoadRect X (ix4 0 0 r k)
      = (fun (r k : Nat) => bx b k (128 * w + r)) r k := by
  have hb := inb 0
  have hw := inb 1
  subst e
  refine (readAt_unit_at v X inb rfl _ (ix4 ⟨b, Nat.lt_of_succ_le hb⟩ ⟨w, Nat.lt_of_succ_le hw⟩ r k) ?_).trans (h _ _ r k)
  intro a
  fin_cases a <;> simp
  all_goals rfl

/-- The flags of a block not begun. -/
theorem kst_row {bx : Nat → Nat → Nat → EReal} (B b l : Nat) : kst bx B 0 0 b B l ↔ K (Ovl (bx b)) (128 * B) (128 * B + l) := by
  unfold kst
  rw [ite_self, if_neg (Nat.not_lt_zero _)]

/-- The constant one. -/
theorem one_eq : (Scalar.ofBits .f32 0x3F800000#32 : Ideal .f32) = (1 : EReal) := Ideal.ofBits_one_f32

/-- The rounds begin with the constant one. -/
theorem rounds_first {bx : Nat → Nat → Nat → EReal} {B : Nat} {a b : FVec Ideal S1x128 .f32} (h0 : Before bx 0 B a) (h1 : Before bx 1 B b) :
    Rounds bx B 0 a b (Scalar.ofBits .f32 0x3F800000#32 : Ideal .f32) := by
  rw [one_eq]; exact rounds_zero h0 h1

/-- The outer loop: before block `B`, every earlier block has suppressed what it overlaps. -/
def loopInv_k0_t2  (c : Dev nD)  (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole) (E : Set ℕ) (X2 : BufTy.Contents (Elt Ideal) arg2.view.ty) (X : BufTy.Contents (Elt Ideal) arg7.view.ty)
    {bx : Nat → Nat → Nat → EReal} (hX : HasCol arg7.view X (colOf bx)) (hX2 : HasBox arg2.view X2 bx) :
    LoopInvTy_k0_t2 (F := Ideal) Unit ℕ (UR sig nD τ) ℕ 𝒱₀ c none E i arg1 harg1 arg2 harg2 arg3 harg3 arg4 harg4 arg5 harg5 arg6 harg6 arg7 harg7 where
  inv k _ := (iprop((arg2.view.loc (c : Thread nD τ) ↦[arg2.view.set]{fullShare} X2) ∗ (arg7.view.loc (c : Thread nD τ) ↦[arg7.view.set]{fullShare} X) ∗ (∃ f, (arg6.view.loc (c : Thread nD τ) ↦[arg6.view.set]{fullShare} f) ∗ ⌜HasKeep arg6.view f (kst bx k 0 0)⌝)) : sProp 𝕄I)
  step k acc := by
    iintro ⟨H2, H7, ⟨%f, H6, %hf⟩⟩
    unfold k0_t2_body
    sl_exec
    have D0 := col_rows0 (x := fun r k6 => bx 0 k6 (128 * k.val + r)) (hX2.load (k0_off9_inb k) (k0_off9_eq k))
    have D1 := col_rows1 (x := fun r k6 => bx 1 k6 (128 * k.val + r)) (hX2.load (k0_off10_inb k) (k0_off10_eq k))
    have S0 := sup_diag (f := fun r l => iou (colOf bx 0 k r) (colOf bx 0 k l)) (iou_tile D0 (hX.load (k0_off11_inb k) (k0_off11_eq k)))
    have S1 := sup_diag (f := fun r l => iou (colOf bx 1 k r) (colOf bx 1 k l)) (iou_tile D1 (hX.load (k0_off12_inb k) (k0_off12_eq k)))
    have B0 : Before bx 0 k _ := fun l => (pay132_row (hf.load (k0_off13_inb k) (k0_off13_eq k)) l).trans (fl_congr (kst_row k 0 l))
    have B1 : Before bx 1 k _ := fun l => (pay132_row (hf.load (k0_off14_inb k) (k0_off14_eq k)) l).trans (fl_congr (kst_row k 1 l))
    iapply (wp_call_spec 𝒱₀ (c : Thread nD τ) none E (whileSpec bx k) 129 (fun u hu => nomatch hu)
      (whileSpec_le c E i k (B := k) S0 S1 B0 B1 129 0 rfl _ _ _ (rounds_first B0 B1)))
    rw [whileSpec_apply]
    iintro %r %hr
    obtain ⟨v183_0, v183_1, v183_2⟩ := r
    obtain ⟨A0, A1⟩ := hr
    sl_exec
    have h1 : HasKeep arg6.view (arg6.view.writes (Elt Ideal) f []) (kst bx k k k) :=
      hf.congr fun b w l _ _ hl => kst_start _ _ _ _ hl
    have h2 := keep_step0 h1 (k0_off13_inb k) (k0_off13_eq k)
      (fun l => (pay134_row A0 l).trans (fl_congr (K_of_le (by omega)).symm))
    have h3 := keep_step1 h2 (k0_off14_inb k) (k0_off14_eq k)
      (fun l => (pay134_row A1 l).trans (fl_congr (K_of_le (by omega)).symm))
    sl_for (fun j (_ : PUnit) => (iprop((arg7.view.loc (c : Thread nD τ) ↦[arg7.view.set]{fullShare} X) ∗ (∃ f, (arg6.view.loc (c : Thread nD τ) ↦[arg6.view.set]{fullShare} f) ∗ ⌜HasKeep arg6.view f (kst bx k (k.val + 1 + 4 * j) (k.val + 1 + 4 * j))⌝)) : sProp 𝕄I)) $$ [H7 H6]
    case region =>
      exact (loopInv_k0_t3 𝒱₀ c none i arg1 harg1 arg2 harg2 arg3 harg3 arg4 harg4 arg5 harg5 arg6 harg6 arg7 harg7 k _ _ _ _ _ _ _ _ _ _ _ _ _ _ _ v183_0 v183_1 _ _ _ _ _ X E hX D0 D1 A0 A1).step
    · isplitl [H7]; · iexact H7
      iexists _; isplitl [H6]; · iexact H6
      ipureintro; exact h3
    iintro %_ ⟨H7, ⟨%f3, H6, %h4⟩⟩
    sl_exec
    sl_for (fun j (_ : PUnit) => (iprop((arg7.view.loc (c : Thread nD τ) ↦[arg7.view.set]{fullShare} X) ∗ (∃ f, (arg6.view.loc (c : Thread nD τ) ↦[arg6.view.set]{fullShare} f) ∗ ⌜HasKeep arg6.view f (kst bx k (k.val + 1 + 4 * ((39 - k.val) / 4) + j) (k.val + 1 + 4 * ((39 - k.val) / 4) + j))⌝)) : sProp 𝕄I)) $$ [H7 H6]
    case region =>
      exact (loopInv_k0_t5 𝒱₀ c none i arg1 harg1 arg2 harg2 arg3 harg3 arg4 harg4 arg5 harg5 arg6 harg6 arg7 harg7 k _ _ _ _ _ _ _ _ _ _ _ _ _ _ v183_0 v183_1 _ X E hX D0 D1 A0 A1).step
    · isplitl [H7]; · iexact H7
      iexists _; isplitl [H6]; · iexact H6
      ipureintro
      have e := t3_trips k
      exact e ▸ h4
    iintro %_ ⟨H7, ⟨%f5, H6, %h5⟩⟩
    sl_exec
    sl_step
    isplitl [H2]; · iexact H2
    isplitl [H7]; · iexact H7
    iexists _; isplitl [H6]; · iexact H6
    ipureintro
    have e : (Scf.trips (k0_t5_loop k).lb (k0_t5_loop k).ub (k0_t5_loop k).st) = (39 - k.val) % 4 := t5_trips k
    have hk : k.val < 40 := lt_of_lt_of_eq k.isLt t2_trips
    rw [e, show k.val + 1 + 4 * ((39 - k.val) / 4) + (39 - k.val) % 4 = 40 by omega] at h5
    exact h5.congr fun b w l _ hw _ => kst_end _ _ _ _ hw

end Cert.KernelIdeal.Gen
-- ==== Proof.Nms.Corners.lean ====
module

public import proofs.«01_k».proof.Proof.Nms.Group
public import proofs.«01_k».proof.Proof.Gen.KernelIdeal.Loops

/-! The corners and volumes the first loop lays out. -/

@[expose] public section

set_option maxRecDepth 8192
set_option warn.classDefReducibility false

noncomputable section

namespace Cert.KernelIdeal.Gen

open Idealize.ShloMosaic Idealize.ShloMosaic.TcCoe Idealize.ShloMosaic.Tactic Cert.Nms
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- The array of corners and volumes holds `q` at the rows `D`. -/
def HasRows (v : View sig .tc .vmem S2x40x8x128 .f32) (f : v.ty.Contents (Elt Ideal)) (D : Nat → Nat → Nat → Prop)
    (q : Nat → Nat → Nat → Nat → EReal) : Prop :=
  ∀ (b : Fin 2) (w : Fin 40) (k : Fin 8) (l : Fin 128), D b w k → v.read (Elt Ideal) f (ix4 b w k l) = q b w l k

/-- Rows stored. -/
theorem HasRows.store {v : View sig .tc .vmem S2x40x8x128 .f32} {f : v.ty.Contents (Elt Ideal)}
    {L : List (View.Piece (Elt Ideal) S2x40x8x128 .f32)} {D : Nat → Nat → Nat → Prop} {q : Nat → Nat → Nat → Nat → EReal}
    (h : HasRows v (v.writes (Elt Ideal) f L) D q) {off : Fin 4 → Nat} {b w k0 n : Nat}
    (inb : ∀ a, off a + ![1, 1, n, 128] a ≤ S2x40x8x128.size a) (e : off = ![b, w, k0, 0])
    {x : Vec Ideal ⟨4, ![1, 1, n, 128]⟩ .f32}
    (hx : ∀ (k : Fin n) (l : Fin 128), x (ix4 0 0 k l) = q b w l (k0 + k)) :
    HasRows v (v.writes (Elt Ideal) f ((⟨Rect.unit (s := S2x40x8x128) off ![1, 1, n, 128] inb, x⟩) :: L))
      (fun b' w' k' => (b' = b ∧ w' = w ∧ k0 ≤ k' ∧ k' < k0 + n) ∨ D b' w' k') q := by
  intro b' w' k' l hD
  by_cases hh : b'.val = b ∧ w'.val = w ∧ k0 ≤ k'.val ∧ k'.val < k0 + n
  · obtain ⟨rfl, rfl, h0, h1⟩ := hh
    refine (View.read_writes_cons_unit_of_mem v f inb x L _
      (ix4 0 0 ⟨k'.val - k0, by omega⟩ l : (⟨4, ![1, 1, n, 128]⟩ : Shape).Idx) e ?_).trans ((hx ⟨k'.val - k0, by omega⟩ l).trans ?_)
    · intro a
      fin_cases a <;> simp
      all_goals first | rfl | (show k'.val = _ + (k'.val - k0); omega)
    · show q _ _ _ (k0 + (k'.val - k0)) = _
      rw [Nat.add_sub_cancel' h0]
  · have hD' := hD.resolve_left hh
    by_cases hb : b'.val = b
    · by_cases hw : w'.val = w
      · refine (View.read_writes_cons_unit_of_not_mem v f inb x L _ e (2 : Fin 4) ?_).trans (h b' w' k' l hD')
        show k'.val < k0 ∨ k0 + n ≤ k'.val
        have : ¬ (k0 ≤ k'.val ∧ k'.val < k0 + n) := fun e => hh ⟨hb, hw, e⟩
        omega
      · refine (View.read_writes_cons_unit_of_not_mem v f inb x L _ e (1 : Fin 4) ?_).trans (h b' w' k' l hD')
        show w'.val < w ∨ w + 1 ≤ w'.val
        omega
    · refine (View.read_writes_cons_unit_of_not_mem v f inb x L _ e (0 : Fin 4) ?_).trans (h b' w' k' l hD')
      show b'.val < b ∨ b + 1 ≤ b'.val
      omega

/-- The memory holds the boxes of both images in blocks of 128, coordinates before boxes. -/
def HasBoxT (v : View sig .tc .vmem S2x40x6x128 .f32) (X : BufTy.Contents (Elt Ideal) v.ty) (bx : Nat → Nat → Nat → EReal) : Prop :=
  ∀ (b : Fin 2) (w : Fin 40) (k : Fin 6) (l : Fin 128), v.read (Elt Ideal) X (ix4 b w k l) = bx b k (128 * w + l)

/-- A block of boxes loaded. -/
theorem HasBoxT.load {v : View sig .tc .vmem S2x40x6x128 .f32} {X : BufTy.Contents (Elt Ideal) v.ty} {bx : Nat → Nat → Nat → EReal}
    (h : HasBoxT v X bx) {off : Fin 4 → Nat} {b w : Nat}
    (inb : ∀ a, off a + ![1, 1, 6, 128] a ≤ S2x40x6x128.size a) (e : off = ![b, w, 0, 0]) (k : Fin 6) (r : Fin 128) :
    v.readAt (Elt Ideal) (Rect.unit (s := S2x40x6x128) off ![1, 1, 6, 128] inb).toLoadRect X (ix4 0 0 k r)
      = (fun (r k : Nat) => bx b k (128 * w + r)) r k := by
  have hb := inb 0
  have hw := inb 1
  subst e
  refine (readAt_unit_at v X inb rfl _ (ix4 ⟨b, Nat.lt_of_succ_le hb⟩ ⟨w, Nat.lt_of_succ_le hw⟩ k r) ?_).trans (h _ _ k r)
  intro a
  fin_cases a <;> simp
  all_goals rfl

/-- One trip of the first loop lays out one block of both images. -/
theorem rows_trip (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole)  (X : BufTy.Contents (Elt Ideal) arg1.view.ty) (G : BufTy.Contents (Elt Ideal) arg7.view.ty)
    (L : List (View.Piece (Elt Ideal) S2x40x8x128 .f32)) (k : Fin k0_t1_loop.trips)
    {bx : Nat → Nat → Nat → EReal} (hX : HasBoxT arg1.view X bx) {D : Nat → Nat → Nat → Prop}
    (h : HasRows arg7.view (arg7.view.writes (Elt Ideal) G L) D (colOf bx)) :
    HasRows arg7.view (arg7.view.writes (Elt Ideal) G (tripL_k0_t1 (F := Ideal) 𝒱 c bd i arg1 harg1 arg2 harg2 arg3 harg3 arg4 harg4 arg5 harg5 arg6 harg6 arg7 harg7 X k ++ L))
      (fun b w k' => (w = k.val ∧ k' < 7) ∨ D b w k') (colOf bx) := by
  have X0 := hX.load (k0_off1_inb k) (k0_off1_eq k)
  have X1 := hX.load (k0_off5_inb k) (k0_off5_eq k)
  unfold tripL_k0_t1 trip_k0_t1
  dsimp only [List.cons_append, List.nil_append]
  have H := h.store (k0_off2_inb k) (k0_off2_eq k) (fun k' l => (lo_rows0 (x := fun r k6 => bx 0 k6 (128 * k.val + r)) X0 k' l).trans (by rw [Nat.zero_add]; rfl))
  have H := H.store (k0_off3_inb k) (k0_off3_eq k) (hi_rows0 (x := fun r k6 => bx 0 k6 (128 * k.val + r)) X0)
  have H := H.store (n := 1) (k0_off4_inb k) (k0_off4_eq k) (fun k' l => by
    obtain rfl : k' = 0 := Subsingleton.elim _ _
    exact vol_row0 (x := fun r k6 => bx 0 k6 (128 * k.val + r)) X0 l)
  have H := H.store (k0_off6_inb k) (k0_off6_eq k) (fun k' l => (lo_rows1 (x := fun r k6 => bx 1 k6 (128 * k.val + r)) X1 k' l).trans (by rw [Nat.zero_add]; rfl))
  have H := H.store (k0_off7_inb k) (k0_off7_eq k) (hi_rows1 (x := fun r k6 => bx 1 k6 (128 * k.val + r)) X1)
  have H := H.store (n := 1) (k0_off8_inb k) (k0_off8_eq k) (fun k' l => by
    obtain rfl : k' = 0 := Subsingleton.elim _ _
    exact vol_row1 (x := fun r k6 => bx 1 k6 (128 * k.val + r)) X1 l)
  intro b w k' l hD
  refine H b w k' l ?_
  rcases hD with ⟨hw, hk⟩ | hD
  · have := b.isLt
    have key : (b.val = 1 ∧ w.val = k.val ∧ 6 ≤ k'.val ∧ k'.val < 6 + 1) ∨ (b.val = 1 ∧ w.val = k.val ∧ 3 ≤ k'.val ∧ k'.val < 3 + 3) ∨
        (b.val = 1 ∧ w.val = k.val ∧ 0 ≤ k'.val ∧ k'.val < 0 + 3) ∨ (b.val = 0 ∧ w.val = k.val ∧ 6 ≤ k'.val ∧ k'.val < 6 + 1) ∨
        (b.val = 0 ∧ w.val = k.val ∧ 3 ≤ k'.val ∧ k'.val < 3 + 3) ∨ (b.val = 0 ∧ w.val = k.val ∧ 0 ≤ k'.val ∧ k'.val < 0 + 3) := by omega
    exact key.imp id (Or.imp id (Or.imp id (Or.imp id (Or.imp id Or.inl))))
  · exact Or.inr (Or.inr (Or.inr (Or.inr (Or.inr (Or.inr hD)))))

/-- The first loop lays out the corners and volumes of every box. -/
theorem rows_all (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole)  (X : BufTy.Contents (Elt Ideal) arg1.view.ty) (G : BufTy.Contents (Elt Ideal) arg7.view.ty)
    {bx : Nat → Nat → Nat → EReal} (hX : HasBoxT arg1.view X bx) :
    ∀ n : Nat, n ≤ k0_t1_loop.trips →
      HasRows arg7.view (arg7.view.writes (Elt Ideal) G (pb_k0_t1 (F := Ideal) 𝒱 c bd i arg1 harg1 arg2 harg2 arg3 harg3 arg4 harg4 arg5 harg5 arg6 harg6 arg7 harg7 X n))
        (fun _ w k' => w < n ∧ k' < 7) (colOf bx) := by
  intro n
  induction n with
  | zero => intro _ b w k' l h; exact absurd h.1 (Nat.not_lt_zero _)
  | succ n ih =>
    intro hn b w k' l h
    have e := pb_k0_t1_succ (F := Ideal) 𝒱 c bd i arg1 harg1 arg2 harg2 arg3 harg3 arg4 harg4 arg5 harg5 arg6 harg6 arg7 harg7 X ⟨n, hn⟩
    rw [e]
    refine rows_trip 𝒱 c bd i arg1 harg1 arg2 harg2 arg3 harg3 arg4 harg4 arg5 harg5 arg6 harg6 arg7 harg7 X G _ ⟨n, hn⟩ hX (ih (by omega)) b w k' l ?_
    obtain ⟨hw, hk⟩ := h
    exact (Nat.lt_succ_iff_lt_or_eq.1 hw).elim (fun hw => Or.inr ⟨hw, hk⟩) fun hw => Or.inl ⟨hw, hk⟩

/-- What the array of corners and volumes holds after the first loop. -/
theorem col_all (𝒱 : Variants) (c : Dev nD) (bd : Option 𝒱.V) (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole)  (X : BufTy.Contents (Elt Ideal) arg1.view.ty) (G : BufTy.Contents (Elt Ideal) arg7.view.ty)
    {bx : Nat → Nat → Nat → EReal} (hX : HasBoxT arg1.view X bx) :
    HasCol arg7.view (arg7.view.writes (Elt Ideal) G (pb_k0_t1 (F := Ideal) 𝒱 c bd i arg1 harg1 arg2 harg2 arg3 harg3 arg4 harg4 arg5 harg5 arg6 harg6 arg7 harg7 X k0_t1_loop.trips)) (colOf bx) :=
  fun b w k l hk => rows_all 𝒱 c bd i arg1 harg1 arg2 harg2 arg3 harg3 arg4 harg4 arg5 harg5 arg6 harg6 arg7 harg7 X G hX _ le_rfl b w k l ⟨lt_of_lt_of_eq w.isLt t1_trips.symm, hk⟩

end Cert.KernelIdeal.Gen
-- ==== Proof.Nms.Body.lean ====
module

public import proofs.«01_k».proof.Proof.Nms.Outer
public import proofs.«01_k».proof.Proof.Nms.Corners
public import proofs.«01_k».proof.Proof.Gen.KernelIdeal.Loops
import Idealize.ShloMosaic.Lib.Pointwise.Tactic
import Idealize.ShloMosaic.Lib.Pointwise.Contract
import Idealize.ShloMosaic.Lib.Pointwise.Select
import Idealize.ShloMosaic.Lib.Pointwise.Reshape

/-! The kernel as a whole. -/

@[expose] public section

set_option maxRecDepth 8192
set_option warn.classDefReducibility false

noncomputable section

namespace Cert.KernelIdeal.Gen

open Idealize.ShloMosaic Idealize.ShloMosaic.TcCoe Idealize.ShloMosaic.Tactic Cert.Nms
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- Four zero offsets. -/
theorem zero4 : ∀ a : Fin 4, (![0, 0, 0, 0] : Fin 4 → Nat) a = 0 := by decide

/-- An array stored whole holds the stored value. -/
theorem read_stored {sig : RefSig} {κ : Kind} {sp : Space} {s : Shape} {e : EltTy} (v : View sig κ sp s e) (f : v.ty.Contents (Elt Ideal))
    {off : Fin s.rank → Nat} (inb : ∀ a, off a + s.size a ≤ s.size a) (h : ∀ a, off a = 0) (x : Vec Ideal s e) (y : s.Idx) :
    v.read (Elt Ideal) (v.writes (Elt Ideal) f [⟨Rect.unit (s := s) off s.size inb, x⟩]) y = x y :=
  View.read_writes_cons_unit_of_mem v f inb x [] y y rfl fun a => by rw [h a, Nat.zero_add]

/-- An array loaded whole is what the view reads. -/
theorem read_loaded {sig : RefSig} {κ : Kind} {sp : Space} {s : Shape} {e : EltTy} (v : View sig κ sp s e) (f : v.ty.Contents (Elt Ideal))
    {off : Fin s.rank → Nat} (inb : ∀ a, off a + s.size a ≤ s.size a) (h : ∀ a, off a = 0) (y : s.Idx) :
    v.readAt (Elt Ideal) (Rect.unit (s := s) off s.size inb).toLoadRect f y = v.read (Elt Ideal) f y :=
  readAt_unit_at v f inb rfl y y fun a => by rw [h a, Nat.zero_add]

/-- Before the first block no box is suppressed. -/
theorem keep_ones {sig : RefSig} {κ : Kind} {sp : Space} (v : View sig κ sp S2x40x1x128 .f32) (f : v.ty.Contents (Elt Ideal)) (bx : Nat → Nat → Nat → EReal) :
    HasKeep v (v.writes (Elt Ideal) f [⟨Rect.unit (s := S2x40x1x128) ![0, 0, 0, 0] S2x40x1x128.size inb_S2x40x1x128_S2x40x1x128_0_0_0_0, k0_pay1 (F := Ideal)⟩])
      (kst bx 0 0 0) := by
  intro b w l
  refine (View.read_writes_cons_unit_of_mem v f inb_S2x40x1x128_S2x40x1x128_0_0_0_0 (k0_pay1 (F := Ideal)) [] (ix4 b w 0 l) (ix4 b w 0 l : S2x40x1x128.Idx) rfl ?_).trans ?_
  · intro a
    fin_cases a <;> simp
    all_goals rfl
  · have h : kst bx 0 0 0 b w l := by
      unfold kst
      rw [ite_self, if_neg (Nat.not_lt_zero _)]
      exact K_zero _
    rw [fl_pos h]
    exact one_eq

/-- After the last block every flag is final. -/
theorem kst_last {bx : Nat → Nat → Nat → EReal} (b w l : Nat) (hw : w < 40) (hl : l < 128) :
    kst bx 40 0 0 b w l ↔ G (Ovl (bx b)) (128 * w + l) := by
  unfold kst
  rw [ite_self, if_neg (Nat.not_lt_zero _)]
  exact K_of_le (by omega)

/-- The kernel writes every score and every box times the flag of the box: 1 where it survives and 0 elsewhere. -/
theorem kernel_spec  (c : Dev nD)  (i : grid0.Coords) (arg1 : Memref sig .tc .vmem S2x40x6x128 .f32) (harg1 : arg1.IsWhole) (arg2 : Memref sig .tc .vmem S2x40x128x6 .f32) (harg2 : arg2.IsWhole) (arg3 : Memref sig .tc .vmem S2x40x1x128 .f32) (harg3 : arg3.IsWhole) (arg4 : Memref sig .tc .vmem S2x40x1x128 .f32) (harg4 : arg4.IsWhole) (arg5 : Memref sig .tc .vmem S2x40x6x128 .f32) (harg5 : arg5.IsWhole) (arg6 : Memref sig .tc .vmem S2x40x1x128 .f32) (harg6 : arg6.IsWhole) (arg7 : Memref sig .tc .vmem S2x40x8x128 .f32) (harg7 : arg7.IsWhole)  (E : Set ℕ) (X1 : BufTy.Contents (Elt Ideal) arg1.view.ty) (X2 : BufTy.Contents (Elt Ideal) arg2.view.ty)
    (X3 : BufTy.Contents (Elt Ideal) arg3.view.ty) (f4 : BufTy.Contents (Elt Ideal) arg4.view.ty) (f5 : BufTy.Contents (Elt Ideal) arg5.view.ty)
    (f6 : BufTy.Contents (Elt Ideal) arg6.view.ty) (f7 : BufTy.Contents (Elt Ideal) arg7.view.ty)
    {bx : Nat → Nat → Nat → EReal} (hX1 : HasBoxT arg1.view X1 bx) (hX2 : HasBox arg2.view X2 bx) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)) : sProp 𝕄I) ⊢
      wp frame (wpE (defs₀ (F := Ideal)) 𝒱₀ (c : Thread nD τ) none) E (cc0__nms_kernel (F := Ideal) i arg1 harg1 arg2 harg2 arg3 harg3 arg4 harg4 arg5 harg5 arg6 harg6 arg7 harg7)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗
          (∃ g4, (arg4.view.loc (c : Thread nD τ) ↦[arg4.view.set]{fullShare} g4) ∗ ⌜∀ (b : Fin 2) (w : Fin 40) (l : Fin 128), arg4.view.read (Elt Ideal) g4 (ix4 b w 0 l) = arg3.view.read (Elt Ideal) X3 (ix4 b w 0 l) * fl (G (Ovl (bx b)) (128 * w + l))⌝) ∗
          (∃ g5, (arg5.view.loc (c : Thread nD τ) ↦[arg5.view.set]{fullShare} g5) ∗ ⌜∀ (b : Fin 2) (w : Fin 40) (k : Fin 6) (l : Fin 128), arg5.view.read (Elt Ideal) g5 (ix4 b w k l) = arg1.view.read (Elt Ideal) X1 (ix4 b w k l) * fl (G (Ovl (bx b)) (128 * w + l))⌝) ∗
          (∃ g6, (arg6.view.loc (c : Thread nD τ) ↦[arg6.view.set]{fullShare} g6)) ∗ (∃ g7, (arg7.view.loc (c : Thread nD τ) ↦[arg7.view.set]{fullShare} g7)))) := by
  iintro ⟨H1, H2, H3, H4, H5, H6, H7⟩
  rw [cc0__nms_kernel_eq_skeleton]
  unfold cc0__nms_kernel_skel
  sl_exec
  have hC := col_all 𝒱₀ c none i arg1 harg1 arg2 harg2 arg3 harg3 arg4 harg4 arg5 harg5 arg6 harg6 arg7 harg7 X1 f7 hX1
  sl_for (fun j (_ : PUnit) => (iprop((arg2.view.loc (c : Thread nD τ) ↦[arg2.view.set]{fullShare} X2) ∗ (arg7.view.loc (c : Thread nD τ) ↦[arg7.view.set]{fullShare} (arg7.view.writes (Elt Ideal) f7 (pb_k0_t1 (F := Ideal) 𝒱₀ c none i arg1 harg1 arg2 harg2 arg3 harg3 arg4 harg4 arg5 harg5 arg6 harg6 arg7 harg7 X1 k0_t1_loop.trips))) ∗ (∃ f, (arg6.view.loc (c : Thread nD τ) ↦[arg6.view.set]{fullShare} f) ∗ ⌜HasKeep arg6.view f (kst bx j 0 0)⌝)) : sProp 𝕄I)) $$ [H2 H7 H6]
  case region =>
    exact (loopInv_k0_t2 c i arg1 harg1 arg2 harg2 arg3 harg3 arg4 harg4 arg5 harg5 arg6 harg6 arg7 harg7 E X2 _ hC hX2).step
  · isplitl [H2]; · iexact H2
    isplitl [H7]; · iexact H7
    iexists _; isplitl [H6]; · iexact H6
    ipureintro; exact keep_ones _ _ bx
  iintro %_ ⟨H2, H7, ⟨%f, H6, %hf⟩⟩
  have hK : HasKeep arg6.view f (fun b w l => G (Ovl (bx b)) (128 * w + l)) := hf.congr fun b w l _ hw hl => kst_last b w l hw hl
  sl_exec
  sl_step
  isplitl [H1]; · iexact H1
  isplitl [H2]; · iexact H2
  isplitl [H3]; · iexact H3
  isplitl [H4]
  · iexists _; isplitl [H4]; · iexact H4
    ipureintro
    intro b w l
    refine (read_stored arg4.view f4 _ zero4 _ (ix4 b w 0 l)).trans ?_
    unfold k0_pay9
    pointwise
    rw [read_loaded arg6.view f _ zero4, read_loaded arg3.view X3 _ zero4, hK b w l]
  isplitl [H5]
  · iexists _; isplitl [H5]; · iexact H5
    ipureintro
    intro b w k l
    refine (read_stored arg5.view f5 _ zero4 _ (ix4 b w k l)).trans ?_
    unfold k0_pay10
    pointwise
    rw [read_loaded arg6.view f _ zero4, read_loaded arg1.view X1 _ zero4, hK b w l]
  isplitl [H6]; · iexists _; iexact H6
  iexists _; iexact H7

end Cert.KernelIdeal.Gen
-- ==== Proof.Nms.Launch.lean ====
module

public import proofs.«01_k».proof.Proof.Nms.Around
public import proofs.«01_k».proof.Proof.Nms.Body
public import Idealize.ShloMosaic.Lib.Pipeline.ValueKit.Geometry

/-! The launch: what the kernel's two results hold when it ends. -/

@[expose] public section

set_option maxRecDepth 8192

noncomputable section

namespace Cert.KernelIdeal.Gen

open Idealize.ShloMosaic Idealize.ShloMosaic.TcCoe Idealize.ShloMosaic.Tactic Cert.Nms
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄I" => MT nD τ sig Unit (Elt Ideal) ℕ (UR sig nD τ) ℕ

variable (m : (ℓ : Loc nD τ sig) → Buf (Elt Ideal) ℓ)

/-- The boxes in blocks of 128, the boxes before the coordinates, as the kernel finds them. -/
def inRows (c : Dev nD) : S2x40x128x6.Idx → EReal := V m c main_v8
/-- The boxes in blocks of 128, the coordinates before the boxes, as the kernel finds them. -/
def inCols (c : Dev nD) : S2x40x6x128.Idx → EReal := V m c main_v9
/-- The scores in blocks of 128, as the kernel finds them. -/
def inScores (c : Dev nD) : S2x40x1x128.Idx → EReal := V m c main_v10

/-- Coordinate `k` of box `n` of image `b`, as the kernel finds it. -/
def boxAt (c : Dev nD) (b k n : Nat) : EReal :=
  if h : b < 2 ∧ k < 6 ∧ n / 128 < 40 then
    inRows m c (ix4 ⟨b, h.1⟩ ⟨n / 128, h.2.2⟩ ⟨n % 128, Nat.mod_lt _ (by decide)⟩ ⟨k, h.2.1⟩)
  else 0

/-- The flag of box `n` of image `b` as a number. -/
def flagAt (c : Dev nD) (b n : Nat) : EReal := fl (G (Ovl (boxAt m c b)) n)

/-- What the kernel leaves in its first result: each score times the flag of its box. -/
def outScores (c : Dev nD) : S2x40x1x128.Idx → EReal := fun i =>
  inScores m c i * flagAt m c (i 0).val (128 * (i 1).val + (i 3).val)
/-- What the kernel leaves in its second result: each coordinate times the flag of its box. -/
def outBoxes (c : Dev nD) : S2x40x6x128.Idx → EReal := fun i =>
  inCols m c i * flagAt m c (i 0).val (128 * (i 1).val + (i 3).val)

/-- The proof data of the launch: the arrays as the host operations leave them, the inputs kept and the results as
    above. -/
def dats (_ : Fin 1) (c : Dev nD) : Dat τ (Elt Ideal) Unit ℕ (UR sig nD τ) ℕ (cfg0 (F := Ideal)) c where
  A w := V m c (Pipeline.arrRef spec0 w)
  after w _ := match w with
    | ⟨0, _⟩ => inCols m c
    | ⟨1, _⟩ => inRows m c
    | ⟨2, _⟩ => inScores m c
    | ⟨3, _⟩ => outScores m c
    | ⟨4, _⟩ => outBoxes m c
  Φ _ := Pipeline.ΦA spec0 c
  q _ := fullShare
  owed _ := 0

theorem before_cols (c : Dev nD) (t d) : (dats m 0 c).before 0 t d = inCols m c := by
  rw [fin_N0 t]; unfold Dat.before; rw [if_pos (fetch0_0 t0_0)]
  show ((cfg0 (F := Ideal)).win 0).fill _ d (((cfg0 (F := Ideal)).win 0).blk t0_0 |>.view.read (Elt Ideal) (inCols m c)) = _
  refine funext fun i => ?_
  refine congrArg (inCols m c) (funext fun a => Fin.ext ?_)
  exact Pipeline.Window.rect_emb_val_of_index_zero win0_0 t0_0 a ((by decide +kernel : ∀ a, win0_0.index t0_0 a = 0) a) i
theorem before_rows (c : Dev nD) (t d) : (dats m 0 c).before 1 t d = inRows m c := by
  rw [fin_N0 t]; unfold Dat.before; rw [if_pos (fetch0_1 t0_0)]
  show ((cfg0 (F := Ideal)).win 1).fill _ d (((cfg0 (F := Ideal)).win 1).blk t0_0 |>.view.read (Elt Ideal) (inRows m c)) = _
  refine funext fun i => ?_
  refine congrArg (inRows m c) (funext fun a => Fin.ext ?_)
  exact Pipeline.Window.rect_emb_val_of_index_zero win0_1 t0_0 a ((by decide +kernel : ∀ a, win0_1.index t0_0 a = 0) a) i
theorem before_scores (c : Dev nD) (t d) : (dats m 0 c).before 2 t d = inScores m c := by
  rw [fin_N0 t]; unfold Dat.before; rw [if_pos (fetch0_2 t0_0)]
  show ((cfg0 (F := Ideal)).win 2).fill _ d (((cfg0 (F := Ideal)).win 2).blk t0_0 |>.view.read (Elt Ideal) (inScores m c)) = _
  refine funext fun i => ?_
  refine congrArg (inScores m c) (funext fun a => Fin.ext ?_)
  exact Pipeline.Window.rect_emb_val_of_index_zero win0_2 t0_0 a ((by decide +kernel : ∀ a, win0_2.index t0_0 a = 0) a) i

theorem after_cols (c : Dev nD) (t) : (dats m 0 c).after 0 t = inCols m c := by dsimp only [dats]
theorem after_rows (c : Dev nD) (t) : (dats m 0 c).after 1 t = inRows m c := by dsimp only [dats]
theorem after_scores (c : Dev nD) (t) : (dats m 0 c).after 2 t = inScores m c := by dsimp only [dats]
theorem after_outScores (c : Dev nD) (t) : (dats m 0 c).after 3 t = outScores m c := by dsimp only [dats]
theorem after_outBoxes (c : Dev nD) (t) : (dats m 0 c).after 4 t = outBoxes m c := by dsimp only [dats]

/-- The boxes found, at the number of a box: block by block. -/
theorem boxAt_block (c : Dev nD) (b : Fin 2) (w : Fin 40) (l : Fin 128) (k : Fin 6) :
    boxAt m c b k (128 * w + l) = inRows m c (ix4 b w l k) := by
  have hd : (128 * (w : Nat) + l) / 128 = w := by omega
  have hr : (128 * (w : Nat) + l) % 128 = l := by omega
  unfold boxAt
  rw [dif_pos ⟨b.isLt, k.isLt, by omega⟩]
  congr 2 <;> exact Fin.ext (by assumption)

/-- Scores times flags, box by box, are the first result. -/
theorem scores_ext (c : Dev nD) {f f2 : S2x40x1x128.Idx → EReal} (h2 : f2 = inScores m c)
    (h : ∀ (b : Fin 2) (w : Fin 40) (l : Fin 128), f (ix4 b w 0 l) = f2 (ix4 b w 0 l) * fl (G (Ovl (boxAt m c b)) (128 * w + l))) :
    f = outScores m c := by
  subst h2
  refine funext fun i => ?_
  obtain ⟨b, w, u, l, rfl⟩ : ∃ (b : Fin 2) (w : Fin 40) (u : Fin 1) (l : Fin 128), i = ix4 b w u l := ⟨_, _, _, _, eq_ix4 i⟩
  obtain rfl : u = 0 := Subsingleton.elim _ _
  exact h b w l

/-- Coordinates times flags, box by box, are the second result. -/
theorem boxes_ext (c : Dev nD) {f f0 : S2x40x6x128.Idx → EReal} (h0 : f0 = inCols m c)
    (h : ∀ (b : Fin 2) (w : Fin 40) (k : Fin 6) (l : Fin 128), f (ix4 b w k l) = f0 (ix4 b w k l) * fl (G (Ovl (boxAt m c b)) (128 * w + l))) :
    f = outBoxes m c := by
  subst h0
  refine funext fun i => ?_
  obtain ⟨b, w, k, l, rfl⟩ : ∃ (b : Fin 2) (w : Fin 40) (k : Fin 6) (l : Fin 128), i = ix4 b w k l := ⟨_, _, _, _, eq_ix4 i⟩
  exact h b w k l

/-- A whole buffer held is its whole memory reference held. -/
theorem held_whole (c : Dev nD) (b : Ref sig .tc) (f : Buf (Elt Ideal) ((c : Thread nD τ).loc b)) :
    (((c : Thread nD τ).loc b ↦{fullShare} f) : sProp 𝕄I)
      = ((Memref.whole b : Memref sig .tc _ _ _).view.loc (c : Thread nD τ) ↦[(Memref.whole b : Memref sig .tc _ _ _).view.set]{fullShare} f) := by
  simp only [Memref.view_whole, View.set_whole]

/-- The kernel from the blocks the launch hands it leaves the results named above. -/
theorem body_run (c : Dev nD) (hT : ∀ (b : Fin 2) (w : Fin 40) (k : Fin 6) (l : Fin 128), inCols m c (ix4 b w k l) = inRows m c (ix4 b w l k)) :
    (iprop((dats m 0 c).Φ t0_0.castSucc ∗ (dats m 0 c).owesAt () t0_0.castSucc
      ∗ (∃ d, owns (c : Thread nD τ) (st0_0 t0_0) fullShare ((dats m 0 c).before 0 t0_0 d))
      ∗ (∃ d, owns (c : Thread nD τ) (st0_1 t0_0) fullShare ((dats m 0 c).before 1 t0_0 d))
      ∗ (∃ d, owns (c : Thread nD τ) (st0_2 t0_0) fullShare ((dats m 0 c).before 2 t0_0 d))
      ∗ (∃ d, owns (c : Thread nD τ) (st0_3 t0_0) fullShare ((dats m 0 c).before 3 t0_0 d))
      ∗ (∃ d, owns (c : Thread nD τ) (st0_4 t0_0) fullShare ((dats m 0 c).before 4 t0_0 d))) : sProp 𝕄I)
    ⊢ wp frame (wpE (defs₀ (F := Ideal)) 𝒱₀ (c : Thread nD τ) none) Set.univ (bodyAt0 t0_0)
      fun _ => iprop((dats m 0 c).Φ t0_0.succ ∗ (dats m 0 c).owesAt () t0_0.succ
      ∗ owns (c : Thread nD τ) (st0_0 t0_0) fullShare ((dats m 0 c).after 0 t0_0)
      ∗ owns (c : Thread nD τ) (st0_1 t0_0) fullShare ((dats m 0 c).after 1 t0_0)
      ∗ owns (c : Thread nD τ) (st0_2 t0_0) fullShare ((dats m 0 c).after 2 t0_0)
      ∗ owns (c : Thread nD τ) (st0_3 t0_0) fullShare ((dats m 0 c).after 3 t0_0)
      ∗ owns (c : Thread nD τ) (st0_4 t0_0) fullShare ((dats m 0 c).after 4 t0_0)) := by
  simp only [before_cols, before_rows, before_scores, after_cols, after_rows, after_scores, after_outScores, after_outBoxes]
  rw [show (dats m 0 c).owesAt () t0_0.succ = (dats m 0 c).owesAt () t0_0.castSucc from rfl,
    show (dats m 0 c).Φ t0_0.castSucc = Pipeline.ΦA spec0 c from rfl,
    show (dats m 0 c).Φ t0_0.succ = Pipeline.ΦA spec0 c from rfl]
  unfold Pipeline.ΦA
  rw [scopedRest0_eq]
  simp only [held_whole c cc0_scratch0, held_whole c cc0_scratch1]
  unfold owns
  iintro ⟨⟨⟨⟨%s0, S0⟩, ⟨%s1, S1⟩⟩, Hr⟩, Hw, ⟨%d0, %f0, %e0, H0⟩, ⟨%d1, %f1, %e1, H1⟩, ⟨%d2, %f2, %e2, H2⟩, ⟨%d3, %f3, %e3, H3⟩, ⟨%d4, %f4, %e4, H4⟩⟩
  have h0 : HasBoxT (st0_0 (F := Ideal) t0_0).view f0 (boxAt m c) := fun b w k l =>
    (congrFun e0 (ix4 b w k l)).trans ((hT b w k l).trans (boxAt_block m c b w l k).symm)
  have h1 : HasBox (st0_1 (F := Ideal) t0_0).view f1 (boxAt m c) := fun b w l k =>
    (congrFun e1 (ix4 b w l k)).trans (boxAt_block m c b w l k).symm
  iapply (wp_wand_r Idealize.ShloMosaic.frame (wpE (defs₀ (F := Ideal)) 𝒱₀ (c : Thread nD τ) none) Set.univ)
  isplitl [S0 S1 H0 H1 H2 H3 H4]
  · iapply (kernel_spec c (grid0.coords t0_0) _ _ _ _ _ _ _ _ _ _ _ _ _ _ Set.univ f0 f1 f2 f3 f4 s0 s1 h0 h1)
    isplitl [H0]; · iexact H0
    isplitl [H1]; · iexact H1
    isplitl [H2]; · iexact H2
    isplitl [H3]; · iexact H3
    isplitl [H4]; · iexact H4
    isplitl [S0]; · iexact S0
    iexact S1
  iintro %_ ⟨H0, H1, H2, ⟨%g3, H3, %e3'⟩, ⟨%g4, H4, %e4'⟩, ⟨%s0', S0⟩, ⟨%s1', S1⟩⟩
  isplitl [S0 S1 Hr]
  · isplitl [S0 S1]
    · isplitl [S0]
      · iexists _; iexact S0
      iexists _; iexact S1
    iexact Hr
  isplitl [Hw]; · iexact Hw
  isplitl [H0]
  · iexists f0; isplitr; · (ipureintro; exact e0)
    iexact H0
  isplitl [H1]
  · iexists f1; isplitr; · (ipureintro; exact e1)
    iexact H1
  isplitl [H2]
  · iexists f2; isplitr; · (ipureintro; exact e2)
    iexact H2
  isplitl [H3]
  · iexists g3; isplitr
    · (ipureintro; exact scores_ext m c e2 e3')
    iexact H3
  iexists g4; isplitr
  · (ipureintro; exact boxes_ext m c e0 e4')
  iexact H4

/-- The obligation of the launch about the kernel. -/
theorem body_holds (c : Dev nD) (hT : ∀ (b : Fin 2) (w : Fin 40) (k : Fin 6) (l : Fin 128), inCols m c (ix4 b w k l) = inRows m c (ix4 b w l k)) :
    Pipeline.BodyObligation (dats m 0 c) (defs₀ (F := Ideal)) 𝒱₀ () Set.univ := fun t => by
  rw [fin_N0 t]
  rw [bigSep_W0, bigSep_W0]
  sl_whnfR [defs₀, Defs.onTc]
  exact body_run m c hT

theorem share_full (c : Dev nD) (w : Fin (cfg0 (F := Ideal)).W) : (dats m 0 c).share w = fullShare := by
  unfold Dat.share; split <;> rfl

/-- The first result after the launch. -/
theorem arr_scores (c : Dev nD) : (dats m 0 c).arrAt 3 (cfg0 (F := Ideal)).N = outScores m c :=
  (dats m 0 c).arrAt_eq_of_after_last 3 t0_0 (by decide +kernel) _ fun j => rfl

/-- The second result after the launch. -/
theorem arr_boxes (c : Dev nD) : (dats m 0 c).arrAt 4 (cfg0 (F := Ideal)).N = outBoxes m c :=
  (dats m 0 c).arrAt_eq_of_after_last 4 t0_0 (by decide +kernel) _ fun j => rfl

/-- The contents the operations after the kernel start from. -/
abbrev W0 (c : Dev nD) : Valuation τ sig (Elt Ideal) :=
  Pipeline.withArrays spec0 c (V0 m c) fun w => (dats m 0 c).arrAt w (cfg0 (F := Ideal)).N

theorem W0_scores (c : Dev nD) : W0 m c (Proc.devRef .tc main_v11_0) = outScores m c :=
  (Pipeline.withArrays_arr spec0 winFacts0.arr_inj c (V0 m c) _ 3).trans (arr_scores m c)
theorem W0_boxes (c : Dev nD) : W0 m c (Proc.devRef .tc main_v11_1) = outBoxes m c :=
  (Pipeline.withArrays_arr spec0 winFacts0.arr_inj c (V0 m c) _ 4).trans (arr_boxes m c)

/-- The kernel program runs to an end: the two inputs unchanged, the semaphores at zero, and the result what the
    operations after the kernel make of the kernel's results. -/
theorem run (hT : ∀ c (b : Fin 2) (w : Fin 40) (k : Fin 6) (l : Fin 128), inCols m c (ix4 b w k l) = inRows m c (ix4 b w l k)) (g : Dev nD → PrngReg) :
    θ_run defs (onTc (τ := τ) (main (F := Ideal))) ⟨m, fun _ => 0, g⟩ (fun r => (∀ c : Dev nD,
      r.2.mem ((c.tc : Thread nD τ).loc main_v18) = StableHlo.after hostOps1 (W0 m c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around (cfgs (F := Ideal)) (dats m) 0 launch0 defs₀ 𝒱₀ m g main
    (hbody := fun c => (body_holds m c (hT c)).loose) (hshare := share_full m) (howed := fun _ _ => rfl)
    (V₀ := V0 m) (opss := [hostOps1]) tail_sub tail_fresh tail_keeps (main_around m 𝒱₀)
    (hA := fun _ _ => rfl) (hΦ := fun _ _ => rfl) _ fun r h =>
      ⟨fun c => ⟨(h.1 c).2 main_v18 (Pipeline.mem_restRefs_of main_v18 (by decide) (by decide)),
        ((h.1 c).2 main_arg0 (Pipeline.mem_restRefs_of main_arg0 (by decide) (by decide))).trans (end_arg0 m (dats m) c),
        ((h.1 c).2 main_arg1 (Pipeline.mem_restRefs_of main_arg1 (by decide) (by decide))).trans (end_arg1 m (dats m) c)⟩, h.2⟩

end Cert.KernelIdeal.Gen

end
-- ==== Proof.Nms.Want.lean ====
module

public import proofs.«01_k».proof.Proof.Nms.Greedy
public import Idealize.ShloMosaic.Lib.Pointwise.Index

/-! What both programs compute from the sorted boxes and scores. -/

@[expose] public section

noncomputable section

namespace Cert.Nms

open Idealize.ShloMosaic

/-- Coordinate `k` of sorted box `n` of image `b`. -/
def sb (X : (⟨3, ![2, 5000, 6]⟩ : Shape).Idx → EReal) (b k n : Nat) : EReal :=
  if h : b < 2 ∧ k < 6 ∧ n < 5000 then X (ix3 ⟨b, h.1⟩ ⟨n, h.2.2⟩ ⟨k, h.2.1⟩) else 0

/-- A coordinate of a box that is there. -/
theorem sb_at (X : (⟨3, ![2, 5000, 6]⟩ : Shape).Idx → EReal) (b : Fin 2) (k : Fin 6) (n : Fin 5000) : sb X b k n = X (ix3 b n k) := by
  unfold sb
  rw [dif_pos ⟨b.isLt, k.isLt, n.isLt⟩]

/-- The flag of sorted box `n` of image `b`: 1 if the greedy choice keeps it and 0 if not. -/
def flagOf (X : (⟨3, ![2, 5000, 6]⟩ : Shape).Idx → EReal) (b n : Nat) : EReal := fl (G (Ovl (sb X b)) n)

/-- Entry `r` of row `n` of the result of image `b`: the score or a coordinate of the box, times the flag of the box. -/
def wantAt (X : (⟨3, ![2, 5000, 6]⟩ : Shape).Idx → EReal) (Y : (⟨2, ![2, 5000]⟩ : Shape).Idx → EReal)
    (b : Fin 2) (n : Fin 5000) (r : Fin 7) : EReal :=
  (if h : r.val = 0 then Y (ix2 b n) else X (ix3 b n ⟨r.val - 1, by omega⟩)) * flagOf X b n

/-- The result. -/
def want (X : (⟨3, ![2, 5000, 6]⟩ : Shape).Idx → EReal) (Y : (⟨2, ![2, 5000]⟩ : Shape).Idx → EReal) :
    (⟨3, ![2, 5000, 7]⟩ : Shape).Idx → EReal := fun i => wantAt X Y (i 0) (i 1) (i 2)

/-- An array with these entries is the result. -/
theorem want_ext {X : (⟨3, ![2, 5000, 6]⟩ : Shape).Idx → EReal} {Y : (⟨2, ![2, 5000]⟩ : Shape).Idx → EReal}
    {Z : (⟨3, ![2, 5000, 7]⟩ : Shape).Idx → EReal}
    (h0 : ∀ (b : Fin 2) (n : Fin 5000), Z (ix3 b n (0 : Fin 7)) = Y (ix2 b n) * flagOf X b n)
    (h1 : ∀ (b : Fin 2) (n : Fin 5000) (k : Fin 6), Z (ix3 b n (⟨1 + k, by omega⟩ : Fin 7)) = X (ix3 b n k) * flagOf X b n) :
    Z = want X Y := by
  funext i
  obtain ⟨b, n, r, rfl⟩ : ∃ (b : Fin 2) (n : Fin 5000) (r : Fin 7), i = ix3 b n r := ⟨_, _, _, eq_ix3 i⟩
  show Z (ix3 b n r) = wantAt X Y b n r
  unfold wantAt
  rcases Nat.eq_zero_or_pos r.val with h | h
  · obtain rfl : r = 0 := Fin.ext h
    rw [dif_pos h]
    exact h0 b n
  · rw [dif_neg (Nat.ne_of_gt h)]
    have h2 := h1 b n ⟨r.val - 1, by omega⟩
    have h3 : (⟨1 + (r.val - 1), by omega⟩ : Fin 7) = r := Fin.ext (by show 1 + (r.val - 1) = r.val; omega)
    rw [h3] at h2
    exact h2

end Cert.Nms

end
-- ==== Proof.Nms.Host.lean ====
module

public import proofs.«01_k».proof.Proof.Nms.Launch
public import proofs.«01_k».proof.Proof.Nms.Want
public import Idealize.ShloMosaic.Lib.StableHlo.ReadAt
import Idealize.ShloMosaic.Lib.Pointwise.Tactic
import Idealize.ShloMosaic.Lib.Pointwise.Contract
import Idealize.ShloMosaic.Lib.Pointwise.Select
import Idealize.ShloMosaic.Lib.Pointwise.Reshape

/-! The host operations around the kernel: padding and blocking before it, unblocking and cutting after it. -/

@[expose] public section

set_option maxRecDepth 8192

noncomputable section

namespace Cert.KernelIdeal.Gen

open Idealize.ShloMosaic Idealize.ShloMosaic.TcCoe Idealize.ShloMosaic.Tactic Cert.Nms
open Idealize.SL.Sem

variable (m : (ℓ : Loc nD τ sig) → Buf (Elt Ideal) ℓ)

/-- The operations that sort. -/
abbrev sortOps : List (HloOp τ sig (Elt Ideal)) := List.flatten [hostOps0, hostOps0_1, hostOps0_2, hostOps0_3, hostOps0_4]
/-- The operations that pad and cut into blocks. -/
abbrev padOps : List (HloOp τ sig (Elt Ideal)) := List.flatten [hostOps0_5, hostOps0_6, hostOps0_7, hostOps0_8, hostOps0_9]

/-- The contents of every buffer once the boxes and scores are sorted. -/
def sorted (c : Dev nD) : Valuation τ sig (Elt Ideal) := StableHlo.after sortOps fun b => m (c, b)

/-- The sorted boxes. -/
def sBoxes (c : Dev nD) : S2x5000x6.Idx → EReal := sorted m c (Proc.devRef .tc main_v4)
/-- The sorted scores. -/
def sScores (c : Dev nD) : S2x5000.Idx → EReal := sorted m c (Proc.devRef .tc main_v5)

/-- The kernel starts from the sorted arrays, padded and cut into blocks. -/
theorem V0_eq (c : Dev nD) : V0 m c = StableHlo.after padOps (sorted m c) := by
  unfold sorted
  rw [← StableHlo.after_append]
  rfl

/-- The two arrangements of the boxes agree. -/
theorem cols_eq_rows (c : Dev nD) (b : Fin 2) (w : Fin 40) (k : Fin 6) (l : Fin 128) :
    inCols m c (ix4 b w k l) = inRows m c (ix4 b w l k) := by
  unfold inCols inRows V
  rw [V0_eq]
  after_reads_at

/-- A row of the blocks is a sorted box. -/
theorem rows_eq (c : Dev nD) (b : Fin 2) (w : Fin 40) (l : Fin 128) (k : Fin 6) (n : Fin 5000) (hn : (n : Nat) = 128 * w + l) :
    inRows m c (ix4 b w l k) = sBoxes m c (ix3 b n k) := by
  have hw : (w : Nat) * 128 + l = n := by omega
  unfold inRows sBoxes V
  rw [V0_eq]
  after_reads_at
  rw [dif_pos (hw ▸ n.isLt)]
  simp only [hw]

/-- A score of the blocks is a sorted score. -/
theorem scores_eq (c : Dev nD) (b : Fin 2) (w : Fin 40) (l : Fin 128) (n : Fin 5000) (hn : (n : Nat) = 128 * w + l) :
    inScores m c (ix4 b w 0 l) = sScores m c (ix2 b n) := by
  have hw : (w : Nat) * 128 + l = n := by omega
  unfold inScores sScores V
  rw [V0_eq]
  after_reads_at
  rw [dif_pos (hw ▸ n.isLt)]
  simp only [hw]

/-- The first column of the result is the kernel's first result. -/
theorem out_score (W : Valuation τ sig (Elt Ideal)) (b : Fin 2) (n : Fin 5000) :
    StableHlo.after hostOps1 W (Proc.devRef .tc main_v18) (ix3 b n (0 : Fin 7))
      = W (Proc.devRef .tc main_v11_0) (ix4 b (⟨n / 128, by omega⟩ : Fin 40) (0 : Fin 1) (⟨n % 128, by omega⟩ : Fin 128)) := by
  after_reads_at

/-- The other columns are its second. -/
theorem out_box (W : Valuation τ sig (Elt Ideal)) (b : Fin 2) (n : Fin 5000) (k : Fin 6) :
    StableHlo.after hostOps1 W (Proc.devRef .tc main_v18) (ix3 b n (⟨1 + k, by omega⟩ : Fin 7))
      = W (Proc.devRef .tc main_v11_1) (ix4 b (⟨n / 128, by omega⟩ : Fin 40) k (⟨n % 128, by omega⟩ : Fin 128)) := by
  after_reads_at

/-- The boxes the kernel finds are the sorted boxes, as far as those go. -/
theorem boxAt_eq (c : Dev nD) (b : Fin 2) (k n : Nat) (hn : n < 5000) : boxAt m c b k n = sb (sBoxes m c) b k n := by
  unfold boxAt sb
  by_cases hk : k < 6
  · rw [dif_pos ⟨b.isLt, hk, by omega⟩, dif_pos ⟨b.isLt, hk, hn⟩]
    exact rows_eq m c b ⟨n / 128, by omega⟩ ⟨n % 128, by omega⟩ ⟨k, hk⟩ ⟨n, hn⟩ (by show n = 128 * (n / 128) + n % 128; omega)
  · rw [dif_neg fun h => hk h.2.1, dif_neg fun h => hk h.2.1]

/-- The flags the kernel computes are those of the sorted boxes: the boxes of the padding come last and suppress none of
    these. -/
theorem flagAt_eq (c : Dev nD) (b : Fin 2) (n : Fin 5000) : flagAt m c b n = flagOf (sBoxes m c) b n := by
  unfold flagAt flagOf
  refine fl_congr (G_congr (n := 5000) (fun i j hi hj => ?_) _ n n.isLt n.isLt)
  unfold Ovl
  rw [show (fun k => boxAt m c b k i) = fun k => sb (sBoxes m c) b k i from funext fun k => boxAt_eq m c b k i hi,
    show (fun k => boxAt m c b k j) = fun k => sb (sBoxes m c) b k j from funext fun k => boxAt_eq m c b k j hj]

/-- What the program of the kernel leaves in its result. -/
theorem result (c : Dev nD) :
    StableHlo.after hostOps1 (W0 m c) (Proc.devRef .tc main_v18) = want (sBoxes m c) (sScores m c) := by
  refine want_ext (fun b n => ?_) fun b n k => ?_
  · have hd : 128 * ((n : Nat) / 128) + n % 128 = n := by omega
    rw [out_score, W0_scores]
    unfold outScores
    rw [scores_eq m c b ⟨n / 128, by omega⟩ ⟨n % 128, by omega⟩ n hd.symm, ← flagAt_eq m c b n]
    show _ * flagAt m c b (128 * ((n : Nat) / 128) + n % 128) = _
    rw [hd]
  · have hd : 128 * ((n : Nat) / 128) + n % 128 = n := by omega
    rw [out_box, W0_boxes]
    unfold outBoxes
    rw [cols_eq_rows, rows_eq m c b ⟨n / 128, by omega⟩ ⟨n % 128, by omega⟩ k n hd.symm, ← flagAt_eq m c b n]
    show _ * flagAt m c b (128 * ((n : Nat) / 128) + n % 128) = _
    rw [hd]

end Cert.KernelIdeal.Gen

end
-- ==== Proof.Nms.Entry.lean ====
module

public import proofs.«01_k».proof.Proof.Gen.ReferenceIdeal.Run
public import proofs.«01_k».proof.Proof.Nms.Want
public import Idealize.ShloMosaic.PureOps.Ideal
public import Idealize.ShloMosaic.Lib.StableHlo.ReadAt
import Idealize.ShloMosaic.Lib.Pointwise.Tactic
import Idealize.ShloMosaic.Lib.Pointwise.Contract
import Idealize.ShloMosaic.Lib.Pointwise.Select
import Idealize.ShloMosaic.Lib.Pointwise.Reshape

/-! The reference before its loop: the table of overlaps, and what the loop starts from. -/

@[expose] public section

set_option maxRecDepth 8192

noncomputable section

namespace Cert.ReferenceIdeal.Gen

open Idealize.ShloMosaic Idealize.ShloMosaic.TcCoe Idealize.ShloMosaic.Tactic Cert.Nms
open Idealize.SL.Sem

/-- The table of overlaps: entry `i j` is the intersection over union of the sorted boxes `i` and `j`. -/
theorem table (W : Valuation τ sig (Elt Ideal)) (b : Fin 2) (i j : Fin 5000) :
    StableHlo.after hostOps0_5 W (Proc.devRef .tc main_v52_0) (ix3 b i j)
      = iou (corner fun k => sb (W (Proc.devRef .tc main_v4)) b k i) (corner fun k => sb (W (Proc.devRef .tc main_v4)) b k j) := by
  have s0 : ∀ n : Fin 5000, sb (W (Proc.devRef .tc main_v4)) b 0 n = W (Proc.devRef .tc main_v4) (ix3 b n 0) := sb_at _ b 0
  have s1 : ∀ n : Fin 5000, sb (W (Proc.devRef .tc main_v4)) b 1 n = W (Proc.devRef .tc main_v4) (ix3 b n 1) := sb_at _ b 1
  have s2 : ∀ n : Fin 5000, sb (W (Proc.devRef .tc main_v4)) b 2 n = W (Proc.devRef .tc main_v4) (ix3 b n 2) := sb_at _ b 2
  have s3 : ∀ n : Fin 5000, sb (W (Proc.devRef .tc main_v4)) b 3 n = W (Proc.devRef .tc main_v4) (ix3 b n 3) := sb_at _ b 3
  have s4 : ∀ n : Fin 5000, sb (W (Proc.devRef .tc main_v4)) b 4 n = W (Proc.devRef .tc main_v4) (ix3 b n 4) := sb_at _ b 4
  have s5 : ∀ n : Fin 5000, sb (W (Proc.devRef .tc main_v4)) b 5 n = W (Proc.devRef .tc main_v4) (ix3 b n 5) := sb_at _ b 5
  after_reads_at
  simp only [id_eq]
  pointwise
  simp only [iou, inter, ov, corner, two]
  norm_num [s0, s1, s2, s3, s4, s5]

/-- The positions the loop compares its counter with. -/
theorem places (W : Valuation τ sig (Elt Ideal)) (j : Fin 5000) :
    StableHlo.after hostOps0_5 W (Proc.devRef .tc main_v52_1) (ix1 j) = BitVec.ofNat 32 j := by
  after_reads_at
  rfl

/-- The loop's counter starts at zero. -/
theorem start_index (W : Valuation τ sig (Elt Ideal)) :
    StableHlo.after hostOps0_5 W (Proc.devRef .tc main_v52_3) = fun _ => 0#32 := by
  after_reads_simp
  rfl

/-- The loop starts with every box kept. -/
theorem start_keep (W : Valuation τ sig (Elt Ideal)) (b : Fin 2) (j : Fin 5000) :
    StableHlo.after hostOps0_5 W (Proc.devRef .tc main_v52_4) (ix2 b j) = 1#1 := by
  after_reads_at
  rfl

/-- After the loop, the first column is the score times the flag. -/
theorem end_score (W : Valuation τ sig (Elt Ideal)) (Y : S2x5000.Idx → EReal) (K : S2x5000.Idx → BitVec 1)
    (hY : W (Proc.devRef .tc main_v5) = Y) (hK : W (Proc.devRef .tc main_v52_4) = K) (b : Fin 2) (n : Fin 5000) :
    StableHlo.after hostOps0_6 W (Proc.devRef .tc main_v59) (ix3 b n (0 : Fin 7)) = Y (ix2 b n) * (((K (ix2 b n)).toNat : ℝ) : EReal) := by
  after_reads_at
  rw [hY, hK]
  rfl

/-- After the loop, the other columns are the box times the flag. -/
theorem end_box (W : Valuation τ sig (Elt Ideal)) (X : S2x5000x6.Idx → EReal) (K : S2x5000.Idx → BitVec 1)
    (hX : W (Proc.devRef .tc main_v4) = X) (hK : W (Proc.devRef .tc main_v52_4) = K) (b : Fin 2) (n : Fin 5000) (k : Fin 6) :
    StableHlo.after hostOps0_6 W (Proc.devRef .tc main_v59) (ix3 b n (⟨1 + k, by omega⟩ : Fin 7))
      = X (ix3 b n k) * (((K (ix2 b n)).toNat : ℝ) : EReal) := by
  after_reads_at
  rw [hX, hK]
  rfl

end Cert.ReferenceIdeal.Gen

end
-- ==== Proof.Nms.Loop.lean ====
module

public import proofs.«01_k».proof.Proof.Nms.Entry
import Idealize.ShloMosaic.Lib.DynamicIndex
import Idealize.ShloMosaic.Lib.WordCmp
import Idealize.ShloMosaic.Lib.Pointwise.Tactic
import Idealize.ShloMosaic.Lib.Pointwise.Contract
import Idealize.ShloMosaic.Lib.Pointwise.Select
import Idealize.ShloMosaic.Lib.Pointwise.Reshape

/-! The reference's loop: after `n` trips the flags are the greedy choice among the first `n` boxes. -/

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic Cert.Nms
open Idealize.ShloMosaic.StableHlo
open Idealize.SL.Sem

/-- A number below 5000, read signed from a word of 32 bits. -/
theorem toInt_small (n : Nat) (h : n < 5000) : (BitVec.ofNat 32 n).toInt = n := by
  rw [BitVec.toInt_eq_toNat_of_lt] <;> rw [BitVec.toNat_ofNat, Nat.mod_eq_of_lt] <;> omega

/-- The start of a slice that counts a negative start from the end, at a start that is not negative. -/
theorem start_small (n : Nat) (h : n < 5000) (j : S_.Idx) :
    (select (cmpi .slt (fun _ => BitVec.ofNat 32 n) (constantI S_ 32 0#32)) (addi (fun _ => BitVec.ofNat 32 n) (constantI S_ 32 5000#32))
      (fun _ => BitVec.ofNat 32 n) j).toInt = (n : Int) := by
  rw [select_slt_zero_of_nonneg _ _ _ _ (by rw [toInt_small n h]; omega)]
  exact toInt_small n h

/-- The flag that a slice of one column picks. -/
theorem column (K : S2x5000.Idx → BitVec 1) (start : Fin 2 → Int) (n : Fin 5000) (h0 : start 0 = (0 : Nat)) (h1 : start 1 = (n : Nat))
    (b : Fin 2) (ht : S2x1.rank = S2x5000.rank) (g0 : Host.clampedStart S2x5000 S2x1 ht start 0 + b < 2)
    (g1 : Host.clampedStart S2x5000 S2x1 ht start 1 < 5000) :
    K (ix2 ⟨Host.clampedStart S2x5000 S2x1 ht start 0 + b, g0⟩ ⟨Host.clampedStart S2x5000 S2x1 ht start 1, g1⟩) = K (ix2 b n) := by
  have e0 := Host.clampedStart_of_le (s := S2x5000) (t := S2x1) ht start 0 0 h0 (Nat.le_refl 2)
  have e1 := Host.clampedStart_of_le (s := S2x5000) (t := S2x1) ht start 1 n h1 (by have := n.isLt; show n.val + 1 ≤ 5000; omega)
  congr 2
  · exact Fin.ext (by show _ + b.val = b.val; rw [e0, Nat.zero_add])
  · exact Fin.ext e1

/-- The overlaps that a slice of one row picks. -/
theorem row (T : S2x5000x5000.Idx → EReal) (start : Fin 3 → Int) (n : Fin 5000) (h0 : start 0 = (0 : Nat)) (h1 : start 1 = (n : Nat))
    (h2 : start 2 = (0 : Nat)) (b : Fin 2) (j : Fin 5000) (ht : S2x1x5000.rank = S2x5000x5000.rank)
    (g0 : Host.clampedStart S2x5000x5000 S2x1x5000 ht start 0 + b < 2)
    (g1 : Host.clampedStart S2x5000x5000 S2x1x5000 ht start 1 < 5000)
    (g2 : Host.clampedStart S2x5000x5000 S2x1x5000 ht start 2 + j < 5000) :
    T (ix3 ⟨Host.clampedStart S2x5000x5000 S2x1x5000 ht start 0 + b, g0⟩ ⟨Host.clampedStart S2x5000x5000 S2x1x5000 ht start 1, g1⟩
      ⟨Host.clampedStart S2x5000x5000 S2x1x5000 ht start 2 + j, g2⟩) = T (ix3 b n j) := by
  have e0 := Host.clampedStart_of_le (s := S2x5000x5000) (t := S2x1x5000) ht start 0 0 h0 (Nat.le_refl 2)
  have e1 := Host.clampedStart_of_le (s := S2x5000x5000) (t := S2x1x5000) ht start 1 n h1 (by have := n.isLt; show n.val + 1 ≤ 5000; omega)
  have e2 := Host.clampedStart_of_le (s := S2x5000x5000) (t := S2x1x5000) ht start 2 0 h2 (Nat.le_refl 5000)
  congr 2
  · exact Fin.ext (by show _ + b.val = b.val; rw [e0, Nat.zero_add])
  · exact Fin.ext e1
  · exact Fin.ext (by show _ + j.val = j.val; rw [e2, Nat.zero_add])

/-- One trip clears the flags of the later boxes that a kept box overlaps. -/
theorem keep_step (V : Valuation τ sig (Elt Ideal)) (K : S2x5000.Idx → BitVec 1) (T : S2x5000x5000.Idx → EReal)
    (P : S5000.Idx → BitVec 32) (n : Fin 5000)
    (hK : V (Proc.devRef .tc main_v52_4) = K) (hT : V (Proc.devRef .tc main_v52_0) = T)
    (hP : V (Proc.devRef .tc main_v52_1) = P) (hn : V (Proc.devRef .tc main_v52_3) = fun _ => BitVec.ofNat 32 n)
    (b : Fin 2) (j : Fin 5000) :
    step_main_v52_4 V (ix2 b j) = IntOp.andi (K (ix2 b j)) (~~~ IntOp.andi (IntOp.andi (K (ix2 b n)) (BitVec.ofBool (decide (half ≤ T (ix3 b n j)))))
      (IntOp.cmpi .sgt (P (ix1 j)) (BitVec.ofNat 32 n))) := by
  unfold step_main_v52_4 res_main_while0b_v61 res_main_while0b_v71
  rw [hK, hT, hP, hn]
  simp only [id_eq]
  pointwise
  exact congrArg₂ (fun (u : BitVec 1) (v : EReal) => IntOp.andi (K (ix2 b j)) (~~~ IntOp.andi (IntOp.andi u (BitVec.ofBool (decide (half ≤ v))))
      (IntOp.cmpi .sgt (P (ix1 j)) (BitVec.ofNat 32 n))))
    (column K _ n rfl (start_small n n.isLt _) b _ _ _) (row T _ n rfl (start_small n n.isLt _) rfl b j _ _ _ _)

end Cert.ReferenceIdeal.Value

end
-- ==== Proof.Nms.Ref.lean ====
module

public import proofs.«01_k».proof.Proof.Nms.Loop
import Idealize.ShloMosaic.Lib.WordCmp

/-! The reference's run: its result is the greedy choice over the sorted boxes. -/

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic Cert.Nms
open Idealize.ShloMosaic.StableHlo
open Idealize.SL.Sem

/-- A conjunction of two bits is set when both are. -/
theorem andi_one (x y : BitVec 1) : IntOp.andi x y = 1#1 ↔ x = 1#1 ∧ y = 1#1 := by
  revert x y; decide

/-- The complement of a bit is set when the bit is not. -/
theorem not_one (x : BitVec 1) : ~~~x = 1#1 ↔ ¬x = 1#1 := by
  revert x; decide

/-- The bit of a proposition is set when it holds. -/
theorem ofBool_one (p : Prop) [Decidable p] : BitVec.ofBool (decide p) = 1#1 ↔ p := by
  by_cases h : p <;> simp [h]

/-- A bit that says whether a proposition holds, read as a number. -/
theorem bit_fl (x : BitVec 1) (p : Prop) (h : x = 1#1 ↔ p) : ((x.toNat : ℝ) : EReal) = fl p := by
  have h2 : x = 1#1 ∨ x = 0#1 := (by decide : ∀ y : BitVec 1, y = 1#1 ∨ y = 0#1) x
  rcases h2 with rfl | rfl
  · rw [fl_pos (h.1 rfl)]; simp
  · rw [fl_neg fun hp => absurd (h.2 hp) (by decide)]; simp

variable (m : (ℓ : Loc nD τ sig) → Buf (Elt Ideal) ℓ)

/-- The contents of every buffer once the boxes and scores are sorted. -/
def sorted (c : Dev nD) : Valuation τ sig (Elt Ideal) :=
  after (List.flatten [hostOps0, hostOps0_1, hostOps0_2, hostOps0_3, hostOps0_4]) fun b => m (c, b)

/-- The sorted boxes. -/
def sBoxes (c : Dev nD) : S2x5000x6.Idx → EReal := sorted m c (Proc.devRef .tc main_v4)
/-- The sorted scores. -/
def sScores (c : Dev nD) : S2x5000.Idx → EReal := sorted m c (Proc.devRef .tc main_v5)

/-- The loop is entered after the table of overlaps is made from the sorted boxes. -/
theorem entry_eq (c : Dev nD) : entryContents preI m c = after hostOps0_5 (sorted m c) := by
  unfold sorted
  rw [← afterL_eq_after_flatten]
  rfl

/-- The stretches before the loop, one after another. -/
theorem entry_steps (c : Dev nD) : entryContents preI m c = after hostOps0_5 (after hostOps0_4 (after hostOps0_3 (after hostOps0_2
    (after hostOps0_1 (after hostOps0 (launchContents m c)))))) := rfl

/-- What the loop carries after `k` trips. -/
theorem carried (c : Dev nD) (k : Nat) (hk : k ≤ 5000) :
    (∀ (b : Fin 2) (i j : Fin 5000), STEP^[k] (entryContents preI m c) (Proc.devRef .tc main_v52_0) (ix3 b i j)
        = iou (corner fun r => sb (sBoxes m c) b r i) (corner fun r => sb (sBoxes m c) b r j))
      ∧ (∀ j : Fin 5000, STEP^[k] (entryContents preI m c) (Proc.devRef .tc main_v52_1) (ix1 j) = BitVec.ofNat 32 j)
      ∧ STEP^[k] (entryContents preI m c) (Proc.devRef .tc main_v52_3) = (fun _ => BitVec.ofNat 32 k)
      ∧ ∀ (b : Fin 2) (j : Fin 5000), STEP^[k] (entryContents preI m c) (Proc.devRef .tc main_v52_4) (ix2 b j) = 1#1
        ↔ K (Ovl (sb (sBoxes m c) b)) k j := by
  induction k with
  | zero =>
    show (∀ (b : Fin 2) (i j : Fin 5000), entryContents preI m c (Proc.devRef .tc main_v52_0) (ix3 b i j)
        = iou (corner fun r => sb (sBoxes m c) b r i) (corner fun r => sb (sBoxes m c) b r j))
      ∧ (∀ j : Fin 5000, entryContents preI m c (Proc.devRef .tc main_v52_1) (ix1 j) = BitVec.ofNat 32 j)
      ∧ entryContents preI m c (Proc.devRef .tc main_v52_3) = (fun _ => BitVec.ofNat 32 0)
      ∧ ∀ (b : Fin 2) (j : Fin 5000), entryContents preI m c (Proc.devRef .tc main_v52_4) (ix2 b j) = 1#1
        ↔ K (Ovl (sb (sBoxes m c) b)) 0 j
    rw [entry_eq]
    exact ⟨fun b i j => table _ b i j, fun j => places _ j, start_index _, fun b j => iff_of_true (start_keep _ b j) (K_zero j)⟩
  | succ k ih =>
    obtain ⟨h0, h1, h3, h4⟩ := ih (by omega)
    rw [Function.iterate_succ_apply']
    refine ⟨fun b i j => ?_, fun j => ?_, ?_, fun b j => ?_⟩
    · rw [STEP_main_v52_0]; exact h0 b i j
    · rw [STEP_main_v52_1]; exact h1 j
    · rw [STEP_main_v52_3]
      unfold step_main_v52_3
      rw [h3]
      funext i
      show BitVec.ofNat 32 k + 1#32 = _
      rw [BitVec.ofNat_add]
    · have hs := keep_step (STEP^[k] (entryContents preI m c)) _ _ _ ⟨k, by omega⟩ rfl rfl rfl h3 b j
      rw [STEP_main_v52_4]
      refine (iff_of_eq (congrArg (· = 1#1) hs)).trans ?_
      rw [andi_one, not_one, andi_one, andi_one, ofBool_one, h0, h1, h4, h4, K_succ]
      rw [WordCmp.cmpi_sgt_ofNat (by have := j.isLt; omega) (by omega), ofBool_one]
      show _ ∧ ¬((_ ∧ Ovl (sb (sBoxes m c) b) k j) ∧ _) ↔ _
      rw [and_assoc]

/-- A buffer that neither the loop's condition nor its body writes is after `k` trips as it was. -/
theorem loop_keeps (c : Dev nD) (r : Ref sig .tc) (h1 : r ∉ condOps_W) (h2 : r ∉ while0Ops0_W) (k : Nat) :
    atK m k c (Proc.devRef .tc r) = entryContents preI m c (Proc.devRef .tc r) := by
  induction k with
  | zero => rfl
  | succ k ih =>
    refine Eq.trans ?_ ih
    show afterL bodyI (after condOps (atK m k c)) (Proc.devRef .tc r) = _
    exact (after_of_writes_sub while0Ops0 _ while0Ops0_writes h2).trans (after_of_writes_sub condOps _ condOps_writes h1)

/-- The flags when the loop ends. -/
theorem end_flag (c : Dev nD) (b : Fin 2) (n : Fin 5000) :
    (((after condOps (atK m 5000 c) (Proc.devRef .tc main_v52_4) : S2x5000.Idx → BitVec 1) (ix2 b n)).toNat : ℝ)
      = flagOf (sBoxes m c) b n := by
  refine bit_fl _ _ ?_
  have h := (carried m c 5000 le_rfl).2.2.2 b n
  rw [K_of_le (by have := n.isLt; omega)] at h
  rw [cond_keeps (atK m 5000 c) main_v52_4 (by decide), atK_agree m c 5000 main_v52_4 (by decide)]
  exact h

/-- The sorted boxes are there when the loop ends. -/
theorem end_boxes (c : Dev nD) : after condOps (atK m 5000 c) (Proc.devRef .tc main_v4) = sBoxes m c := by
  rw [after_of_writes_sub condOps _ condOps_writes (by decide +kernel), loop_keeps m c main_v4 (by decide +kernel) (by decide +kernel), entry_eq,
    after_of_writes_sub hostOps0_5 _ hostOps0_5_writes (by decide +kernel)]
  rfl

/-- The sorted scores are there when the loop ends. -/
theorem end_scores (c : Dev nD) : after condOps (atK m 5000 c) (Proc.devRef .tc main_v5) = sScores m c := by
  rw [after_of_writes_sub condOps _ condOps_writes (by decide +kernel), loop_keeps m c main_v5 (by decide +kernel) (by decide +kernel), entry_eq,
    after_of_writes_sub hostOps0_5 _ hostOps0_5_writes (by decide +kernel)]
  rfl

/-- What the reference leaves in its result. -/
theorem result (c : Dev nD) :
    finalContents condOps preI bodyI postI 5000 m c (Proc.devRef .tc main_v59) = want (sBoxes m c) (sScores m c) := by
  show after hostOps0_6 (after condOps (atK m 5000 c)) (Proc.devRef .tc main_v59) = _
  refine want_ext (fun b n => ?_) fun b n k => ?_
  · rw [end_score _ _ _ (end_scores m c) rfl, end_flag]
  · rw [end_box _ _ _ (end_boxes m c) rfl, end_flag]

/-- The operations after the loop do not write the first argument. -/
theorem tail_arg0 (W : Valuation τ sig (Elt Ideal)) : after hostOps0_6 W (Proc.devRef .tc main_arg0) = W (Proc.devRef .tc main_arg0) := by
  after_reads_simp

/-- The operations after the loop do not write the second argument. -/
theorem tail_arg1 (W : Valuation τ sig (Elt Ideal)) : after hostOps0_6 W (Proc.devRef .tc main_arg1) = W (Proc.devRef .tc main_arg1) := by
  after_reads_simp

/-- The reference leaves its first argument as it was. -/
theorem end_arg0 (c : Dev nD) :
    finalContents condOps preI bodyI postI 5000 m c (Proc.devRef .tc main_arg0) = m ((c.tc : Thread nD τ).loc main_arg0) := by
  show after hostOps0_6 (after condOps (atK m 5000 c)) (Proc.devRef .tc main_arg0) = _
  rw [tail_arg0,
    after_of_writes_sub condOps _ condOps_writes (by decide +kernel), loop_keeps m c main_arg0 (by decide +kernel) (by decide +kernel)]
  rw [entry_steps, after_of_writes_sub hostOps0_5 _ hostOps0_5_writes (by decide +kernel), after_of_writes_sub hostOps0_4 _ hostOps0_4_writes (by decide +kernel),
    after_of_writes_sub hostOps0_3 _ hostOps0_3_writes (by decide +kernel), after_of_writes_sub hostOps0_2 _ hostOps0_2_writes (by decide +kernel),
    after_of_writes_sub hostOps0_1 _ hostOps0_1_writes (by decide +kernel), after_of_writes_sub hostOps0 _ hostOps0_writes (by decide +kernel)]

/-- The reference leaves its second argument as it was. -/
theorem end_arg1 (c : Dev nD) :
    finalContents condOps preI bodyI postI 5000 m c (Proc.devRef .tc main_arg1) = m ((c.tc : Thread nD τ).loc main_arg1) := by
  show after hostOps0_6 (after condOps (atK m 5000 c)) (Proc.devRef .tc main_arg1) = _
  rw [tail_arg1,
    after_of_writes_sub condOps _ condOps_writes (by decide +kernel), loop_keeps m c main_arg1 (by decide +kernel) (by decide +kernel)]
  rw [entry_steps, after_of_writes_sub hostOps0_5 _ hostOps0_5_writes (by decide +kernel), after_of_writes_sub hostOps0_4 _ hostOps0_4_writes (by decide +kernel),
    after_of_writes_sub hostOps0_3 _ hostOps0_3_writes (by decide +kernel), after_of_writes_sub hostOps0_2 _ hostOps0_2_writes (by decide +kernel),
    after_of_writes_sub hostOps0_1 _ hostOps0_1_writes (by decide +kernel), after_of_writes_sub hostOps0 _ hostOps0_writes (by decide +kernel)]

/-- The reference ends with the result, its arguments unchanged and no semaphore raised. -/
theorem run (g : Dev nD → PrngReg) :
    θ_run defs (onTc (τ := τ) (main (F := Ideal))) ⟨m, fun _ => 0, g⟩ (fun r =>
      (∀ c : Dev nD, r.2.mem ((c.tc : Thread nD τ).loc main_v59) = want (sBoxes m c) (sScores m c)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h => ⟨fun c => ⟨(h c main_v59 rfl).trans (result m c), (h c main_arg0 rfl).trans (end_arg0 m c),
    (h c main_arg1 rfl).trans (end_arg1 m c)⟩, sem_eq_zero_of_no_sems rfl _⟩) (run_fold m g)

end Cert.ReferenceIdeal.Value

end
-- ==== Proof.Nms.Same.lean ====
module

public import proofs.«01_k».proof.Proof.Nms.Host
public import proofs.«01_k».proof.Proof.Nms.Ref

/-! Both programs sort alike. -/

@[expose] public section

set_option maxRecDepth 8192

noncomputable section

namespace Cert.Nms

open Idealize.ShloMosaic Idealize.ShloMosaic.TcCoe Idealize.ShloMosaic.Tactic
open Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- From equal arguments both programs sort the boxes alike. -/
theorem same_boxes
    (h0 : m' (c, Proc.devRef .tc ReferenceIdeal.main_arg0) = m (c, Proc.devRef .tc KernelIdeal.main_arg0))
    (h1 : m' (c, Proc.devRef .tc ReferenceIdeal.main_arg1) = m (c, Proc.devRef .tc KernelIdeal.main_arg1)) :
    ReferenceIdeal.Value.sBoxes m' c = KernelIdeal.Gen.sBoxes m c := by
  unfold KernelIdeal.Gen.sBoxes ReferenceIdeal.Value.sBoxes KernelIdeal.Gen.sorted ReferenceIdeal.Value.sorted
  after_reads_simp
  rw [h0, h1]
  rfl

/-- From equal arguments both programs sort the scores alike. -/
theorem same_scores
    (h1 : m' (c, Proc.devRef .tc ReferenceIdeal.main_arg1) = m (c, Proc.devRef .tc KernelIdeal.main_arg1)) :
    ReferenceIdeal.Value.sScores m' c = KernelIdeal.Gen.sScores m c := by
  unfold KernelIdeal.Gen.sScores ReferenceIdeal.Value.sScores KernelIdeal.Gen.sorted ReferenceIdeal.Value.sorted
  after_reads_simp
  rw [h1]
  rfl

end Cert.Nms

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Nms.Launch
public import proofs.«01_k».proof.Proof.Nms.Host
public import proofs.«01_k».proof.Proof.Nms.Ref
public import proofs.«01_k».proof.Proof.Nms.Same

@[expose] public section

noncomputable section

namespace Cert.Proof

open Idealize.ShloMosaic Idealize.ShloMosaic.TcCoe
open Idealize.SL.Sem

/-- The program of the kernel ends with the greedy choice over the sorted boxes, its arguments unchanged and no semaphore
    raised. -/
theorem kernel_run (m : (ℓ : Loc KernelIdeal.nD KernelIdeal.τ KernelIdeal.sig) → Buf (Elt Ideal) ℓ) (g : Dev KernelIdeal.nD → PrngReg) :
    θ_run KernelIdeal.defs (onTc (τ := KernelIdeal.τ) (KernelIdeal.main (F := Ideal))) ⟨m, fun _ => 0, g⟩ (fun r =>
      (∀ c : Dev KernelIdeal.nD,
        r.2.mem ((c.tc : Thread KernelIdeal.nD KernelIdeal.τ).loc KernelIdeal.main_v18) = Nms.want (KernelIdeal.Gen.sBoxes m c) (KernelIdeal.Gen.sScores m c)
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run _ _ _).mono (fun r h => ⟨fun c => ⟨(h.1 c).1.trans (KernelIdeal.Gen.result m c), (h.1 c).2⟩, h.2⟩)
    (KernelIdeal.Gen.run m (KernelIdeal.Gen.cols_eq_rows m) g)

/-- The program of the kernel changes no argument and leaves no semaphore raised. -/
theorem kernel_frame : quiescent_KernelIdeal (hKernelIdeal := KernelIdeal.Gen.facts) := fun m g _ =>
  (θ_run _ _ _).mono (fun r h => ⟨fun c => (h.1 c).2, h.2⟩) (kernel_run m g)

/-- The reference changes no argument and leaves no semaphore raised. -/
theorem reference_frame : quiescent_ReferenceIdeal (hReferenceIdeal := ReferenceIdeal.Gen.facts) := fun m g _ =>
  (θ_run _ _ _).mono (fun r h => ⟨fun c => (h.1 c).2, h.2⟩) (ReferenceIdeal.Value.run m g)

/-- From equal arguments both programs end with equal results. -/
theorem equal : algebraic_KernelIdeal_ReferenceIdeal (hKernelIdeal := KernelIdeal.Gen.facts) (hReferenceIdeal := ReferenceIdeal.Gen.facts) :=
  fun m g m' g' _ hargs => ⟨fun c => Nms.want (KernelIdeal.Gen.sBoxes m c) (KernelIdeal.Gen.sScores m c),
    (θ_run _ _ _).mono (fun r h => h.1) (kernel_run m g),
    (θ_run _ _ _).mono (fun r h c => ⟨(h.1 c).1.trans (by
      rw [Nms.same_boxes m m' c (hargs c).1 (hargs c).2, Nms.same_scores m m' c (hargs c).2]), (h.1 c).2⟩) (ReferenceIdeal.Value.run m' g')⟩

/-- The claim. -/
theorem claim : Cert.Claim :=
  ⟨KernelIdeal.Gen.facts, ReferenceIdeal.Gen.facts, kernel_frame, reference_frame, equal⟩

end Cert.Proof

end
